-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_KernelIdeal [hPre_proper_KernelIdeal : Cert.Pre_proper_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_ReferenceIdeal [hPre_proper_ReferenceIdeal : Cert.Pre_proper_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper_KernelIdeal [hKernelIdeal : Cert.KernelIdeal.Facts] [hPre_proper_KernelIdeal : Cert.Pre_proper_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper_ReferenceIdeal [hReferenceIdeal : Cert.ReferenceIdeal.Facts] [hPre_proper_ReferenceIdeal : Cert.Pre_proper_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_proper_KernelIdeal [hKernelIdeal : Cert.KernelIdeal.Facts] [hReferenceIdeal : Cert.ReferenceIdeal.Facts] [hPre_proper_KernelIdeal : Cert.Pre_proper_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_proper_KernelIdeal : Cert.Pre_proper_KernelIdeal.Facts) (hPre_proper_ReferenceIdeal : Cert.Pre_proper_ReferenceIdeal.Facts),
    quiescent_Kernel (hKernel := hKernel)
    ∧ quiescent_KernelIdeal (hKernelIdeal := hKernelIdeal)
    ∧ quiescent_KernelIdeal_pre_proper_KernelIdeal (hKernelIdeal := hKernelIdeal) (hPre_proper_KernelIdeal := hPre_proper_KernelIdeal)
    ∧ quiescent_ReferenceIdeal (hReferenceIdeal := hReferenceIdeal)
    ∧ quiescent_ReferenceIdeal_pre_proper_ReferenceIdeal (hReferenceIdeal := hReferenceIdeal) (hPre_proper_ReferenceIdeal := hPre_proper_ReferenceIdeal)
    ∧ preserves_Kernel_KernelIdeal
    ∧ algebraic_KernelIdeal_ReferenceIdeal_pre_proper_KernelIdeal (hKernelIdeal := hKernelIdeal) (hReferenceIdeal := hReferenceIdeal) (hPre_proper_KernelIdeal := hPre_proper_KernelIdeal)
-- ==== Pre_proper_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S256x32x16x128 : S_.BroadcastsInDim S256x32x16x128 (![] : Fin 0 → Fin S256x32x16x128.rank)
  bcast_S_S32 : S_.BroadcastsInDim S32 (![] : Fin 0 → Fin S32.rank)
  bcast_S_S32x256 : S_.BroadcastsInDim S32x256 (![] : Fin 0 → Fin S32x256.rank)

variable [Facts]

def fn_part1 {F : FTy → Type} [FloatOps F] (main_v8 : IVec S32x1x16x128 1) (main_v11 : IVec S256x32x16x128 1) (main_v13 : IVec S32 1) (main_v14 : IVec S32x256 1) (main_v16 : IVec S32x256 1) (main_v18 : IVec S32x256 1) : IVec S32x1x16x128 1 × IVec S256x32x16x128 1 × IVec S32 1 × IVec S32x256 1 :=
  let main_v19 : IVec S32x256 1 := andi main_v16 main_v18
  let main_v20 : IVec S32x256 1 := ori main_v14 main_v19
  (main_v8, main_v11, main_v13, main_v20)

def fn {F : FTy → Type} [FloatOps F] (main_arg0 : FVec F S32x1x16x128 .bf16) (main_arg1 : FVec F S256x32x16x128 .bf16) (main_arg2 : FVec F S256x32x16x128 .bf16) (main_arg3 : IVec S32x256 32) (main_arg4 : IVec S32 32) : IVec S32x1x16x128 1 × IVec S256x32x16x128 1 × IVec S32 1 × IVec S32x256 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_v6 : FVec F S32x1x16x128 .bf16 := Host.absf main_arg0
  let main_cst : FVec F S_ .bf16 := constant S_ .bf16 0x7F80#16
  let main_v7 : FVec F S32x1x16x128 .bf16 := broadcastInDim S32x1x16x128 ![] bcast_S_S32x1x16x128 main_cst
  let main_v8 : IVec S32x1x16x128 1 := cmpf .olt main_v6 main_v7
  let main_v9 : FVec F S256x32x16x128 .bf16 := Host.absf main_arg1
  let main_cst_0 : FVec F S_ .bf16 := constant S_ .bf16 0x7F80#16
  let main_v10 : FVec F S256x32x16x128 .bf16 := broadcastInDim S256x32x16x128 ![] bcast_S_S256x32x16x128 main_cst_0
  let main_v11 : IVec S256x32x16x128 1 := cmpf .olt main_v9 main_v10
  let main_c : IVec S_ 32 := constantI S_ 32 0#32
  let main_v12 : IVec S32 32 := broadcastInDim S32 ![] bcast_S_S32 main_c
  let main_v13 : IVec S32 1 := cmpi .sgt main_arg4 main_v12
  let main_v14 : IVec S32x256 1 := noti main_v5
  let main_c_1 : IVec S_ 32 := constantI S_ 32 0#32
  let main_v15 : IVec S32x256 32 := broadcastInDim S32x256 ![] bcast_S_S32x256 main_c_1
  let main_v16 : IVec S32x256 1 := cmpi .sge main_arg3 main_v15
  let main_c_2 : IVec S_ 32 := constantI S_ 32 512#32
  let main_v17 : IVec S32x256 32 := broadcastInDim S32x256 ![] bcast_S_S32x256 main_c_2
  let main_v18 : IVec S32x256 1 := cmpi .slt main_arg3 main_v17
  fn_part1 (F := F) main_v8 main_v11 main_v13 main_v14 main_v16 main_v18
-- ==== Pre_proper_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S512x32x16x128 : S_.BroadcastsInDim S512x32x16x128 (![] : Fin 0 → Fin S512x32x16x128.rank)
  bcast_S_S32 : S_.BroadcastsInDim S32 (![] : Fin 0 → Fin S32.rank)
  bcast_S_S32x256 : S_.BroadcastsInDim S32x256 (![] : Fin 0 → Fin S32x256.rank)

variable [Facts]

def fn_part1 {F : FTy → Type} [FloatOps F] (main_v8 : IVec S32x1x16x128 1) (main_v11 : IVec S512x32x16x128 1) (main_v13 : IVec S32 1) (main_v14 : IVec S32x256 1) (main_v16 : IVec S32x256 1) (main_v18 : IVec S32x256 1) : IVec S32x1x16x128 1 × IVec S512x32x16x128 1 × IVec S32 1 × IVec S32x256 1 :=
  let main_v19 : IVec S32x256 1 := andi main_v16 main_v18
  let main_v20 : IVec S32x256 1 := ori main_v14 main_v19
  (main_v8, main_v11, main_v13, main_v20)

def fn {F : FTy → Type} [FloatOps F] (main_arg0 : FVec F S32x1x16x128 .bf16) (main_arg1 : FVec F S512x32x16x128 .bf16) (main_arg2 : FVec F S512x32x16x128 .bf16) (main_arg3 : IVec S32x256 32) (main_arg4 : IVec S32 32) : IVec S32x1x16x128 1 × IVec S512x32x16x128 1 × IVec S32 1 × IVec S32x256 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_v6 : FVec F S32x1x16x128 .bf16 := Host.absf main_arg0
  let main_cst : FVec F S_ .bf16 := constant S_ .bf16 0x7F80#16
  let main_v7 : FVec F S32x1x16x128 .bf16 := broadcastInDim S32x1x16x128 ![] bcast_S_S32x1x16x128 main_cst
  let main_v8 : IVec S32x1x16x128 1 := cmpf .olt main_v6 main_v7
  let main_v9 : FVec F S512x32x16x128 .bf16 := Host.absf main_arg1
  let main_cst_0 : FVec F S_ .bf16 := constant S_ .bf16 0x7F80#16
  let main_v10 : FVec F S512x32x16x128 .bf16 := broadcastInDim S512x32x16x128 ![] bcast_S_S512x32x16x128 main_cst_0
  let main_v11 : IVec S512x32x16x128 1 := cmpf .olt main_v9 main_v10
  let main_c : IVec S_ 32 := constantI S_ 32 0#32
  let main_v12 : IVec S32 32 := broadcastInDim S32 ![] bcast_S_S32 main_c
  let main_v13 : IVec S32 1 := cmpi .sgt main_arg4 main_v12
  let main_v14 : IVec S32x256 1 := noti main_v5
  let main_c_1 : IVec S_ 32 := constantI S_ 32 0#32
  let main_v15 : IVec S32x256 32 := broadcastInDim S32x256 ![] bcast_S_S32x256 main_c_1
  let main_v16 : IVec S32x256 1 := cmpi .sge main_arg3 main_v15
  let main_c_2 : IVec S_ 32 := constantI S_ 32 512#32
  let main_v17 : IVec S32x256 32 := broadcastInDim S32x256 ![] bcast_S_S32x256 main_c_2
  let main_v18 : IVec S32x256 1 := cmpi .slt main_arg3 main_v17
  fn_part1 (F := F) main_v8 main_v11 main_v13 main_v14 main_v16 main_v18
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S32x1 : Shape := ⟨2, ![32, 1]⟩
abbrev S_ : Shape := ⟨0, ![]⟩
abbrev S1 : Shape := ⟨1, ![1]⟩
abbrev S64x32x16x128 : Shape := ⟨4, ![64, 32, 16, 128]⟩
abbrev S512x128 : Shape := ⟨2, ![512, 128]⟩
abbrev S2x32x16 : Shape := ⟨3, ![2, 32, 16]⟩
abbrev S3x512x128 : Shape := ⟨3, ![3, 512, 128]⟩
abbrev S3x2x32x16 : Shape := ⟨4, ![3, 2, 32, 16]⟩
abbrev S12 : Shape := ⟨1, ![12]⟩
abbrev S1x1x64 : Shape := ⟨3, ![1, 1, 64]⟩
abbrev S1x256x1 : Shape := ⟨3, ![1, 256, 1]⟩
abbrev S32x1x1 : Shape := ⟨3, ![32, 1, 1]⟩
abbrev S32x256x1 : Shape := ⟨3, ![32, 256, 1]⟩
abbrev S32x256x64 : Shape := ⟨3, ![32, 256, 64]⟩
abbrev S32x64 : Shape := ⟨2, ![32, 64]⟩
abbrev S32x64x1 : Shape := ⟨3, ![32, 64, 1]⟩
abbrev S32x64x32 : Shape := ⟨3, ![32, 64, 32]⟩
abbrev S32x2048 : Shape := ⟨2, ![32, 2048]⟩
abbrev S32x1x1x128 : Shape := ⟨4, ![32, 1, 1, 128]⟩
abbrev S32x128 : Shape := ⟨2, ![32, 128]⟩
abbrev S64x32x1x128 : Shape := ⟨4, ![64, 32, 1, 128]⟩
abbrev S64x32x128 : Shape := ⟨3, ![64, 32, 128]⟩
abbrev S2048x128 : Shape := ⟨2, ![2048, 128]⟩
abbrev S1x32x1 : Shape := ⟨3, ![1, 32, 1]⟩
abbrev S1x512x128 : Shape := ⟨3, ![1, 512, 128]⟩
abbrev S1x2x32x16 : Shape := ⟨4, ![1, 2, 32, 16]⟩
abbrev S1x32x16 : Shape := ⟨3, ![1, 32, 16]⟩
abbrev S32x16 : Shape := ⟨2, ![32, 16]⟩
abbrev S1x1x32x16 : Shape := ⟨4, ![1, 1, 32, 16]⟩
abbrev S1x32x128 : Shape := ⟨3, ![1, 32, 128]⟩

abbrev nBuf : Space → Nat
  | .hbm => 22
  | .vmem => 10
  | .smem => 1
  | _ => 0

abbrev bufTy : (tb : Table) → Fin (tcTables nBuf tb) → BufTy
  | .hbm, ⟨0, _⟩ => ⟨S32x1x16x128, .bf16⟩
  | .hbm, ⟨1, _⟩ => ⟨S256x32x16x128, .bf16⟩
  | .hbm, ⟨2, _⟩ => ⟨S256x32x16x128, .bf16⟩
  | .hbm, ⟨3, _⟩ => ⟨S32x256, .i32⟩
  | .hbm, ⟨4, _⟩ => ⟨S32, .i32⟩
  | .hbm, ⟨5, _⟩ => ⟨S32x1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S32x1x16x128, .f32⟩
  | .local _ .vmem, ⟨0, _⟩ => ⟨S32x1x16x128, .bf16⟩
  | .local _ .vmem, ⟨1, _⟩ => ⟨S64x32x16x128, .bf16⟩
  | .local _ .vmem, ⟨2, _⟩ => ⟨S64x32x16x128, .bf16⟩
  | .local _ .vmem, ⟨3, _⟩ => ⟨S32x256, .i32⟩
  | .local _ .vmem, ⟨4, _⟩ => ⟨S32x1, .i32⟩
  | .local _ .vmem, ⟨5, _⟩ => ⟨S32x1x16x128, .f32⟩
  | .local _ .vmem, ⟨6, _⟩ => ⟨S512x128, .f32⟩
  | .local _ .vmem, ⟨7, _⟩ => ⟨S2x32x16, .f32⟩
  | .local _ .vmem, ⟨8, _⟩ => ⟨S3x512x128, .f32⟩
  | .local _ .vmem, ⟨9, _⟩ => ⟨S3x2x32x16, .f32⟩
  | .local _ .smem, ⟨0, _⟩ => ⟨S1, .i32⟩
  | _, _ => ⟨S32x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v13 : Ref sig .tc := ⟨.hbm, 21, rfl⟩
abbrev main_v12 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := ⟨1, ![1], ![false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v556 : BitVec 32 := Scalar.muli v2 c4_i32_398
  let v557 : BitVec 32 := Scalar.addi c0_i32 v556
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v558 : BitVec 32 := Scalar.muli v5 c2_i32_399
  let v559 : BitVec 32 := Scalar.addi v557 v558
  let c1_i32_394 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v552 : BitVec 32 := Scalar.subi c1_i32_394 v8
  let c1_i32_400 : BitVec 32 := 1#32
  let v560 : BitVec 32 := Scalar.muli v552 c1_i32_400
  let v561 : BitVec 32 := Scalar.addi v559 v560
  v561.toNat
def k0_dev2 (d0 : Dev nD) : Nat :=
  let c0_i32_403 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_402 : BitVec 32 := 4#32
  let v562 : BitVec 32 := Scalar.muli v2 c4_i32_402
  let v563 : BitVec 32 := Scalar.addi c0_i32_403 v562
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v553 : BitVec 32 := Scalar.subi c1_i32_395 v5
  let c2_i32_404 : BitVec 32 := 2#32
  let v564 : BitVec 32 := Scalar.muli v553 c2_i32_404
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_405 : BitVec 32 := 1#32
  let v566 : BitVec 32 := Scalar.muli v8 c1_i32_405
  let v567 : BitVec 32 := Scalar.addi v565 v566
  v567.toNat
def k0_dev3 (d0 : Dev nD) : Nat :=
  let c0_i32_408 : BitVec 32 := 0#32
  let c1_i32_396 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.subi c1_i32_396 v2
  let c4_i32_407 : BitVec 32 := 4#32
  let v568 : BitVec 32 := Scalar.muli v554 c4_i32_407
  let v569 : BitVec 32 := Scalar.addi c0_i32_408 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v570 : BitVec 32 := Scalar.muli v5 c2_i32_409
  let v571 : BitVec 32 := Scalar.addi v569 v570
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_410 : BitVec 32 := 1#32
  let v572 : BitVec 32 := Scalar.muli v8 c1_i32_410
  let v573 : BitVec 32 := Scalar.addi v571 v572
  v573.toNat
def k0_dev4 (d0 : Dev nD) : Nat :=
  let c0_i32_415 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_414 : BitVec 32 := 4#32
  let v574 : BitVec 32 := Scalar.muli v2 c4_i32_414
  let v575 : BitVec 32 := Scalar.addi c0_i32_415 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_416 : BitVec 32 := 2#32
  let v576 : BitVec 32 := Scalar.muli v5 c2_i32_416
  let v577 : BitVec 32 := Scalar.addi v575 v576
  let c1_i32_394 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v552 : BitVec 32 := Scalar.subi c1_i32_394 v8
  let c1_i32_417 : BitVec 32 := 1#32
  let v578 : BitVec 32 := Scalar.muli v552 c1_i32_417
  let v579 : BitVec 32 := Scalar.addi v577 v578
  v579.toNat
def k0_dev5 (d0 : Dev nD) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v586 : BitVec 32 := Scalar.muli v2 c4_i32_423
  let v587 : BitVec 32 := Scalar.addi c0_i32_424 v586
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v588 : BitVec 32 := Scalar.muli v5 c2_i32_425
  let v589 : BitVec 32 := Scalar.addi v587 v588
  let c1_i32_394 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v552 : BitVec 32 := Scalar.subi c1_i32_394 v8
  let c1_i32_426 : BitVec 32 := 1#32
  let v590 : BitVec 32 := Scalar.muli v552 c1_i32_426
  let v591 : BitVec 32 := Scalar.addi v589 v590
  v591.toNat
def k0_dev6 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v856 : BitVec 32 := Scalar.muli v2 c4_i32_596
  let v857 : BitVec 32 := Scalar.addi c0_i32_597 v856
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v553 : BitVec 32 := Scalar.subi c1_i32_395 v5
  let c2_i32_598 : BitVec 32 := 2#32
  let v858 : BitVec 32 := Scalar.muli v553 c2_i32_598
  let v859 : BitVec 32 := Scalar.addi v857 v858
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_599 : BitVec 32 := 1#32
  let v860 : BitVec 32 := Scalar.muli v8 c1_i32_599
  let v861 : BitVec 32 := Scalar.addi v859 v860
  v861.toNat
def k0_dev7 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v868 : BitVec 32 := Scalar.muli v2 c4_i32_603
  let v869 : BitVec 32 := Scalar.addi c0_i32_604 v868
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v553 : BitVec 32 := Scalar.subi c1_i32_395 v5
  let c2_i32_605 : BitVec 32 := 2#32
  let v870 : BitVec 32 := Scalar.muli v553 c2_i32_605
  let v871 : BitVec 32 := Scalar.addi v869 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_606 : BitVec 32 := 1#32
  let v872 : BitVec 32 := Scalar.muli v8 c1_i32_606
  let v873 : BitVec 32 := Scalar.addi v871 v872
  v873.toNat
def k0_dev8 (d0 : Dev nD) : Nat :=
  let c0_i32_776 : BitVec 32 := 0#32
  let c1_i32_396 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.subi c1_i32_396 v2
  let c4_i32_775 : BitVec 32 := 4#32
  let v1138 : BitVec 32 := Scalar.muli v554 c4_i32_775
  let v1139 : BitVec 32 := Scalar.addi c0_i32_776 v1138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_777 : BitVec 32 := 2#32
  let v1140 : BitVec 32 := Scalar.muli v5 c2_i32_777
  let v1141 : BitVec 32 := Scalar.addi v1139 v1140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_778 : BitVec 32 := 1#32
  let v1142 : BitVec 32 := Scalar.muli v8 c1_i32_778
  let v1143 : BitVec 32 := Scalar.addi v1141 v1142
  v1143.toNat
def k0_dev9 (d0 : Dev nD) : Nat :=
  let c0_i32_783 : BitVec 32 := 0#32
  let c1_i32_396 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.subi c1_i32_396 v2
  let c4_i32_782 : BitVec 32 := 4#32
  let v1150 : BitVec 32 := Scalar.muli v554 c4_i32_782
  let v1151 : BitVec 32 := Scalar.addi c0_i32_783 v1150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_784 : BitVec 32 := 2#32
  let v1152 : BitVec 32 := Scalar.muli v5 c2_i32_784
  let v1153 : BitVec 32 := Scalar.addi v1151 v1152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_785 : BitVec 32 := 1#32
  let v1154 : BitVec 32 := Scalar.muli v8 c1_i32_785
  let v1155 : BitVec 32 := Scalar.addi v1153 v1154
  v1155.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S32x1x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x32x16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32x16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S32x16x128 : Shape := ⟨3, ![32, 16, 128]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S256 : Shape := ⟨1, ![256]⟩
abbrev S1x256 : Shape := ⟨2, ![1, 256]⟩
abbrev S32x1 : Shape := ⟨2, ![32, 1]⟩
abbrev S32x256x32 : Shape := ⟨3, ![32, 256, 32]⟩
abbrev S32x1x8192 : Shape := ⟨3, ![32, 1, 8192]⟩
abbrev S32x16x8192 : Shape := ⟨3, ![32, 16, 8192]⟩
abbrev S32x16 : Shape := ⟨2, ![32, 16]⟩
abbrev S32x16x1 : Shape := ⟨3, ![32, 16, 1]⟩

abbrev nBuf : Space → Nat
  | .hbm => 60
  | .vmem => 0
  | .smem => 0
  | _ => 0

abbrev bufTy : (tb : Table) → Fin (tcTables nBuf tb) → BufTy
  | .hbm, ⟨0, _⟩ => ⟨S32x1x16x128, .bf16⟩
  | .hbm, ⟨1, _⟩ => ⟨S512x32x16x128, .bf16⟩
  | .hbm, ⟨2, _⟩ => ⟨S512x32x16x128, .bf16⟩
  | .hbm, ⟨3, _⟩ => ⟨S32x256, .i32⟩
  | .hbm, ⟨4, _⟩ => ⟨S32, .i32⟩
  | .hbm, ⟨5, _⟩ => ⟨S32x1x16x128, .f32⟩
  | .hbm, ⟨6, _⟩ => ⟨S32x16x128, .f32⟩
  | .hbm, ⟨7, _⟩ => ⟨S512x32x16x128, .f32⟩
  | .hbm, ⟨8, _⟩ => ⟨S_, .i32⟩
  | .hbm, ⟨9, _⟩ => ⟨S32x256, .i32⟩
  | .hbm, ⟨10, _⟩ => ⟨S32x256, .i1⟩
  | .hbm, ⟨11, _⟩ => ⟨S_, .i32⟩
  | .hbm, ⟨12, _⟩ => ⟨S32x256, .i32⟩
  | .hbm, ⟨13, _⟩ => ⟨S32x256, .i32⟩
  | .hbm, ⟨14, _⟩ => ⟨S32x256, .i32⟩
  | .hbm, ⟨15, _⟩ => ⟨S32x256x1, .i32⟩
  | .hbm, ⟨16, _⟩ => ⟨S32x256x32x16x128, .f32⟩
  | .hbm, ⟨17, _⟩ => ⟨S32x8192x16x128, .f32⟩
  | .hbm, ⟨18, _⟩ => ⟨S512x32x16x128, .f32⟩
  | .hbm, ⟨19, _⟩ => ⟨S_, .i32⟩
  | .hbm, ⟨20, _⟩ => ⟨S32x256, .i32⟩
  | .hbm, ⟨21, _⟩ => ⟨S32x256, .i1⟩
  | .hbm, ⟨22, _⟩ => ⟨S_, .i32⟩
  | .hbm, ⟨23, _⟩ => ⟨S32x256, .i32⟩
  | .hbm, ⟨24, _⟩ => ⟨S32x256, .i32⟩
  | .hbm, ⟨25, _⟩ => ⟨S32x256, .i32⟩
  | .hbm, ⟨26, _⟩ => ⟨S32x256x1, .i32⟩
  | .hbm, ⟨27, _⟩ => ⟨S32x256x32x16x128, .f32⟩
  | .hbm, ⟨28, _⟩ => ⟨S32x8192x16x128, .f32⟩
  | .hbm, ⟨29, _⟩ => ⟨S256, .i32⟩
  | .hbm, ⟨30, _⟩ => ⟨S1x256, .i32⟩
  | .hbm, ⟨31, _⟩ => ⟨S32x1, .i32⟩
  | .hbm, ⟨32, _⟩ => ⟨S32x256, .i32⟩
  | .hbm, ⟨33, _⟩ => ⟨S32x256, .i32⟩
  | .hbm, ⟨34, _⟩ => ⟨S32x256, .i1⟩
  | .hbm, ⟨35, _⟩ => ⟨S32x256x1, .i1⟩
  | .hbm, ⟨36, _⟩ => ⟨S32x256x32, .i1⟩
  | .hbm, ⟨37, _⟩ => ⟨S32x1x8192, .i1⟩
  | .hbm, ⟨38, _⟩ => ⟨S32x16x8192, .f32⟩
  | .hbm, ⟨39, _⟩ => ⟨S_, .f32⟩
  | .hbm, ⟨40, _⟩ => ⟨S32x16x8192, .f32⟩
  | .hbm, ⟨41, _⟩ => ⟨S32x16x8192, .f32⟩
  | .hbm, ⟨42, _⟩ => ⟨S_, .f32⟩
  | .hbm, ⟨43, _⟩ => ⟨S_, .f32⟩
  | .hbm, ⟨44, _⟩ => ⟨S32x16x8192, .i1⟩
  | .hbm, ⟨45, _⟩ => ⟨S32x16x8192, .f32⟩
  | .hbm, ⟨46, _⟩ => ⟨S32x16x8192, .f32⟩
  | .hbm, ⟨47, _⟩ => ⟨S_, .f32⟩
  | .hbm, ⟨48, _⟩ => ⟨S32x16, .f32⟩
  | .hbm, ⟨49, _⟩ => ⟨S32x16x1, .f32⟩
  | .hbm, ⟨50, _⟩ => ⟨S32x16x8192, .f32⟩
  | .hbm, ⟨51, _⟩ => ⟨S32x16x8192, .f32⟩
  | .hbm, ⟨52, _⟩ => ⟨S32x16x8192, .f32⟩
  | .hbm, ⟨53, _⟩ => ⟨S_, .f32⟩
  | .hbm, ⟨54, _⟩ => ⟨S32x16, .f32⟩
  | .hbm, ⟨55, _⟩ => ⟨S32x16x1, .f32⟩
  | .hbm, ⟨56, _⟩ => ⟨S32x16x8192, .f32⟩
  | .hbm, ⟨57, _⟩ => ⟨S32x16x8192, .f32⟩
  | .hbm, ⟨58, _⟩ => ⟨S32x16x128, .f32⟩
  | .hbm, ⟨59, _⟩ => ⟨S32x1x16x128, .f32⟩
  | _, _ => ⟨S32x1x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Proof.KernelIdeal.Loop.lean ====
module

public import proofs.«01_k».proof.Proof.Gen.KernelIdeal
public import proofs.«01_k».proof.Proof.Gen.KernelIdeal.Skeleton
public import Idealize.ShloMosaic.Lib.Pipeline.Regions

/-!
# The kernel body, written with its loops

The printed body is straight-line: the sixteen heads and the three exchange stages are unrolled.  Here the same sequence
of operations is written once per head and once per stage (`kbody`), and the printed body is shown to be that sequence.
-/

@[expose] public section

set_option synthInstance.maxSize 4096

noncomputable section

namespace Cert.KernelIdeal.Paged

open Idealize.ShloMosaic Idealize.SL.Sem Cert.KernelIdeal.Gen

variable {F : FTy → Type} [FloatOps F]

/-- A program of the kernel body. -/
abbrev BodyProg (F : FTy → Type) [FloatOps F] := Prog (TpuEff nD τ sig (Elt F) Λ₀ .tc) PUnit

/-- The prefetched table: which quarter of this device's pages is ours. -/
abbrev tM : Memref sig .tc .smem S1 .i32 := Memref.whole main_v12
/-- The queries. -/
abbrev qM : Memref sig .tc .vmem S32x1x16x128 .bf16 := Memref.whole cc0_stg0_0
/-- Our pages of the keys. -/
abbrev kM : Memref sig .tc .vmem S64x32x16x128 .bf16 := Memref.whole cc0_stg1_0
/-- Our pages of the values. -/
abbrev vM : Memref sig .tc .vmem S64x32x16x128 .bf16 := Memref.whole cc0_stg2_0
/-- The block table. -/
abbrev btM : Memref sig .tc .vmem S32x256 .i32 := Memref.whole cc0_stg3_0
/-- The lengths. -/
abbrev lnM : Memref sig .tc .vmem S32x1 .i32 := Memref.whole cc0_stg4_0
/-- The output. -/
abbrev oM : Memref sig .tc .vmem S32x1x16x128 .f32 := Memref.whole cc0_stg5_0
/-- The accumulator, head after head. -/
abbrev aM : Memref sig .tc .vmem S512x128 .f32 := Memref.whole cc0_scratch0
/-- The running maxima and sums. -/
abbrev sM : Memref sig .tc .vmem S2x32x16 .f32 := Memref.whole cc0_scratch1
/-- The peers' accumulators, a slot per stage. -/
abbrev raM : Memref sig .tc .vmem S3x512x128 .f32 := Memref.whole cc0_scratch2
/-- The peers' maxima and sums, a slot per stage. -/
abbrev rsM : Memref sig .tc .vmem S3x2x32x16 .f32 := Memref.whole cc0_scratch3

/-- A head of the queries, or of the output, lies inside. -/
theorem inb_q (h : Fin 16) : ∀ a, (![0, 0, h.val, 0] : Fin 4 → ℕ) a + S32x1x1x128.size a ≤ S32x1x16x128.size a := by
  revert h; decide
/-- A head of the keys or of the values lies inside. -/
theorem inb_k (h : Fin 16) : ∀ a, (![0, 0, h.val, 0] : Fin 4 → ℕ) a + S64x32x1x128.size a ≤ S64x32x16x128.size a := by
  revert h; decide
/-- A head's rows lie inside the accumulator. -/
theorem inb_a (h : Fin 16) : ∀ a, (![32 * h.val, 0] : Fin 2 → ℕ) a + S32x128.size a ≤ S512x128.size a := by
  revert h; decide
/-- A head's column of a statistic lies inside. -/
theorem inb_s (j : Fin 2) (h : Fin 16) : ∀ a, (![j.val, 0, h.val] : Fin 3 → ℕ) a + S1x32x1.size a ≤ S2x32x16.size a := by
  revert j h; decide
/-- A statistic lies inside. -/
theorem inb_sr (j : Fin 2) : ∀ a, (![j.val, 0, 0] : Fin 3 → ℕ) a + S1x32x16.size a ≤ S2x32x16.size a := by
  revert j; decide
/-- A peer's statistic lies inside the scratch. -/
theorem inb_rs (s : Fin 3) (j : Fin 2) : ∀ a, (![s.val, j.val, 0, 0] : Fin 4 → ℕ) a + S1x1x32x16.size a ≤ S3x2x32x16.size a := by
  revert s j; decide
/-- A head's rows of a peer's accumulator lie inside the scratch. -/
theorem inb_ra (s : Fin 3) (h : Fin 16) : ∀ a, (![s.val, 32 * h.val, 0] : Fin 3 → ℕ) a + S1x32x128.size a ≤ S3x512x128.size a := by
  revert s h; decide
/-- The slot of a stage lies inside the accumulator's scratch. -/
theorem inb_raS (s : Fin 3) : ∀ a, (![s.val, 0, 0] : Fin 3 → ℕ) a + S1x512x128.size a ≤ S3x512x128.size a := by
  revert s; decide
/-- The slot of a stage lies inside the statistics' scratch. -/
theorem inb_rsS (s : Fin 3) : ∀ a, (![s.val, 0, 0, 0] : Fin 4 → ℕ) a + S1x2x32x16.size a ≤ S3x2x32x16.size a := by
  revert s; decide
/-- Each of the twelve transfer semaphores lies inside their array. -/
theorem inb_sem (j : Fin 12) : ∀ a, (![j.val] : Fin 1 → ℕ) a + S1.size a ≤ S12.size a := by
  revert j; decide
/-- A head's column can be sliced from the factors. -/
theorem slices_h (h : Fin 16) : S32x16.Slices (![0, h.val] : Fin 2 → ℕ) S32x1 := by
  refine ⟨rfl, ?_⟩; revert h; decide

/-- Head `h` of the queries. -/
abbrev rQ (h : Fin 16) : Rect S32x1x16x128 := Rect.unit (s := S32x1x16x128) ![0, 0, h.val, 0] S32x1x1x128.size (inb_q h)
/-- Head `h` of a page block. -/
abbrev rK (h : Fin 16) : Rect S64x32x16x128 := Rect.unit (s := S64x32x16x128) ![0, 0, h.val, 0] S64x32x1x128.size (inb_k h)
/-- Head `h`'s rows of the accumulator. -/
abbrev rA (h : Fin 16) : Rect S512x128 := Rect.unit (s := S512x128) ![32 * h.val, 0] S32x128.size (inb_a h)
/-- Head `h`'s column of the maxima (`j = 0`) or sums (`j = 1`). -/
abbrev rS (j : Fin 2) (h : Fin 16) : Rect S2x32x16 := Rect.unit (s := S2x32x16) ![j.val, 0, h.val] S1x32x1.size (inb_s j h)
/-- All the maxima or all the sums. -/
abbrev rSr (j : Fin 2) : Rect S2x32x16 := Rect.unit (s := S2x32x16) ![j.val, 0, 0] S1x32x16.size (inb_sr j)
/-- The maxima or sums that arrived at stage `s`. -/
abbrev rRS (s : Fin 3) (j : Fin 2) : Rect S3x2x32x16 := Rect.unit (s := S3x2x32x16) ![s.val, j.val, 0, 0] S1x1x32x16.size (inb_rs s j)
/-- Head `h`'s rows of the accumulator that arrived at stage `s`. -/
abbrev rRA (s : Fin 3) (h : Fin 16) : Rect S3x512x128 := Rect.unit (s := S3x512x128) ![s.val, 32 * h.val, 0] S1x32x128.size (inb_ra s h)

/-- The slot the peer's accumulator lands in at stage `s`. -/
abbrev raS (s : Fin 3) : Memref sig .tc .vmem S512x128 .f32 :=
  (raM.slice (Rect.unit (s := S3x512x128) ![s.val, 0, 0] S1x512x128.size (inb_raS s)) (fun _ => rfl)).squeeze S512x128 squeezes_S1x512x128_S512x128
/-- The slot the peer's maxima and sums land in at stage `s`. -/
abbrev rsS (s : Fin 3) : Memref sig .tc .vmem S2x32x16 .f32 :=
  (rsM.slice (Rect.unit (s := S3x2x32x16) ![s.val, 0, 0, 0] S1x2x32x16.size (inb_rsS s)) (fun _ => rfl)).squeeze S2x32x16 squeezes_S1x2x32x16_S2x32x16
/-- Element `j` of the kernel's array of transfer semaphores. -/
abbrev semN (j : Fin 12) : DmaSem sig :=
  ((cc0_scratch4.slice (Rect.unit (s := S12) ![j.val] S1.size (inb_sem j))).squeeze S_ squeezes_S1_S_).sem
/-- Transfer `k` of stage `s` on its list of four: accumulator out, accumulator in, statistics out, statistics in. -/
abbrev semI (s : Fin 3) (k : Fin 4) : Fin 12 := ⟨4 * s.val + k.val, by omega⟩

/-- The device signalled for stage `s` at the barrier. -/
def peerB (s : Fin 3) (c : Dev nD) : Dev nD :=
  match s with
  | 0 => ⟨k0_dev1 c, k0_dev1_lt c⟩
  | 1 => ⟨k0_dev2 c, k0_dev2_lt c⟩
  | 2 => ⟨k0_dev3 c, k0_dev3_lt c⟩
/-- The device the accumulator goes to at stage `s`. -/
def peerA (s : Fin 3) (c : Dev nD) : Dev nD :=
  match s with
  | 0 => ⟨k0_dev4 c, k0_dev4_lt c⟩
  | 1 => ⟨k0_dev6 c, k0_dev6_lt c⟩
  | 2 => ⟨k0_dev8 c, k0_dev8_lt c⟩
/-- The device the statistics go to at stage `s`. -/
def peerS (s : Fin 3) (c : Dev nD) : Dev nD :=
  match s with
  | 0 => ⟨k0_dev5 c, k0_dev5_lt c⟩
  | 1 => ⟨k0_dev7 c, k0_dev7_lt c⟩
  | 2 => ⟨k0_dev9 c, k0_dev9_lt c⟩

/-! ## The pure values of a combining step and of the output -/

/-- One head's accumulator rows, ours `x` and the peer's `y`, combined with the factors `al` and `be` of its column. -/
def mixPay (h : Fin 16) (al be : FVec F S32x16 .f32) (x : Vec F S32x128 .f32) (y : Vec F S1x32x128 .f32) : FVec F S32x128 .f32 :=
  shapeCast S32x128 (addf (mulf x (broadcastTo S32x128 (extractStridedSlice S32x1 ![0, h.val] al (slices_h h)) broadcasts_S32x1_S32x128))
    (mulf (shapeCast S32x128 y shapeCasts_S1x32x128_S32x128) (broadcastTo S32x128 (extractStridedSlice S32x1 ![0, h.val] be (slices_h h)) broadcasts_S32x1_S32x128)))
    shapeCasts_S32x128_S32x128

/-- One head's output: its accumulator rows over its column of the sums. -/
def outPay (h : Fin 16) (l : FVec F S32x16 .f32) (x : Vec F S32x128 .f32) : FVec F S32x1x1x128 .f32 :=
  shapeCast S32x1x1x128 (divf x (broadcastTo S32x128 (extractStridedSlice S32x1 ![0, h.val] l (slices_h h)) broadcasts_S32x1_S32x128))
    shapeCasts_S32x128_S32x1x1x128

/-! ## The loops -/

/-- Sixteen steps, one after the other, then `k`. -/
def steps16 (f : Fin 16 → BodyProg F → BodyProg F) (k : BodyProg F) : BodyProg F :=
  f 0 (f 1 (f 2 (f 3 (f 4 (f 5 (f 6 (f 7 (f 8 (f 9 (f 10 (f 11 (f 12 (f 13 (f 14 (f 15 k)))))))))))))))

/-- Head `h` of the local attention: its partial sums into the accumulator, its maximum and weight sum into the statistics. -/
def headK (w : FVec F S32x2048 .f32) (has : IVec S32x2048 1) (h : Fin 16) (k : BodyProg F) : BodyProg F :=
  .op (.load qM (rQ h).toLoadRect (View.loadsAt_vmem h_S32x1x1x128)) fun q : Vec F S32x1x1x128 .bf16 =>
  .op (.load kM (rK h).toLoadRect (View.loadsAt_vmem h_S64x32x1x128)) fun kk : Vec F S64x32x1x128 .bf16 =>
  .op (.load vM (rK h).toLoadRect (View.loadsAt_vmem h_S64x32x1x128)) fun vv : Vec F S64x32x1x128 .bf16 =>
  .op (.load aM (rA h).toLoadRect (View.loadsAt_vmem h_S32x128)) fun _ =>
  .op (.store aM (rA h) (k0_pay6 w has q kk vv) Finset.univ (View.stores_vmem_bits_univ h_S32x128 rfl) (.inl rfl)) fun _ =>
  .op (.load sM (rS 0 h).toLoadRect (View.loadsAt_vmem h_S1x32x1)) fun _ =>
  .op (.store sM (rS 0 h) (k0_pay7 has q kk) Finset.univ (View.stores_vmem_bits_univ h_S1x32x1 rfl) (.inl rfl)) fun _ =>
  .op (.load sM (rS 1 h).toLoadRect (View.loadsAt_vmem h_S1x32x1)) fun _ =>
  .op (.store sM (rS 1 h) (k0_pay8 w has q kk) Finset.univ (View.stores_vmem_bits_univ h_S1x32x1 rfl) (.inl rfl)) fun _ =>
  k

/-- Head `h` of a combining step: the accumulator rows become the combination with the peer's. -/
def mixK (s : Fin 3) (al be : FVec F S32x16 .f32) (h : Fin 16) (k : BodyProg F) : BodyProg F :=
  .op (.load aM (rA h).toLoadRect (View.loadsAt_vmem h_S32x128)) fun x : Vec F S32x128 .f32 =>
  .op (.load raM (rRA s h).toLoadRect (View.loadsAt_vmem h_S1x32x128)) fun y : Vec F S1x32x128 .f32 =>
  .op (.load aM (rA h).toLoadRect (View.loadsAt_vmem h_S32x128)) fun _ =>
  .op (.store aM (rA h) (mixPay h al be x y) Finset.univ (View.stores_vmem_bits_univ h_S32x128 rfl) (.inl rfl)) fun _ =>
  k

/-- Head `h` of the output. -/
def outK (l : FVec F S32x16 .f32) (h : Fin 16) (k : BodyProg F) : BodyProg F :=
  .op (.load aM (rA h).toLoadRect (View.loadsAt_vmem h_S32x128)) fun x : Vec F S32x128 .f32 =>
  .op (.load oM (rQ h).toLoadRect (View.loadsAt_vmem h_S32x1x1x128)) fun _ =>
  .op (.store oM (rQ h) (outPay h l x) Finset.univ (View.stores_vmem_bits_univ h_S32x1x1x128 rfl) (.inl rfl)) fun _ =>
  k

/-- The transfers of stage `s`: our accumulator to `d`'s slot, our statistics to `d'`'s, theirs into ours. -/
def talkAt (d d' : Dev nD) (s : Fin 3) (k : BodyProg F) : BodyProg F :=
  .op (.enqueueDma aM (.remote (Dev.tc d) (raS s) (.dma (semN (semI s 0)))) (.dma (semN (semI s 1)))
    (Memref.isWhole_whole _).wordExact ((View.wordExact_bits rfl).reshape _ _) ⟨⟨rfl, Or.inl rfl⟩, trivial⟩) fun _ =>
  .op (.enqueueDma sM (.remote (Dev.tc d') (rsS s) (.dma (semN (semI s 2)))) (.dma (semN (semI s 3)))
    (Memref.isWhole_whole _).wordExact ((View.wordExact_bits rfl).reshape _ _) ⟨⟨rfl, Or.inl rfl⟩, trivial⟩) fun _ =>
  .op (.waitDma2 (semN (semI s 0)) (raS s) aM ((View.wordExact_bits rfl).reshape _ _) (Memref.isWhole_whole _).wordExact) fun _ =>
  .op (.waitDma2 (semN (semI s 1)) aM (raS s) (Memref.isWhole_whole _).wordExact ((View.wordExact_bits rfl).reshape _ _)) fun _ =>
  .op (.waitDma2 (semN (semI s 2)) (rsS s) sM ((View.wordExact_bits rfl).reshape _ _) (Memref.isWhole_whole _).wordExact) fun _ =>
  .op (.waitDma2 (semN (semI s 3)) sM (rsS s) (Memref.isWhole_whole _).wordExact ((View.wordExact_bits rfl).reshape _ _)) fun _ =>
  k

/-- The transfers of stage `s`, to the devices they go to. -/
def talkK (c : Dev nD) (s : Fin 3) (k : BodyProg F) : BodyProg F := talkAt (peerA s c) (peerS s c) s k

/-- The statistics of stage `s` combined, and then each head's accumulator rows. -/
def combineK (s : Fin 3) (k : BodyProg F) : BodyProg F :=
  .op (.load sM (rSr 0).toLoadRect (View.loadsAt_vmem h_S1x32x16)) fun m : Vec F S1x32x16 .f32 =>
  .op (.load sM (rSr 1).toLoadRect (View.loadsAt_vmem h_S1x32x16)) fun l : Vec F S1x32x16 .f32 =>
  .op (.load rsM (rRS s 0).toLoadRect (View.loadsAt_vmem h_S1x1x32x16)) fun m' : Vec F S1x1x32x16 .f32 =>
  .op (.load rsM (rRS s 1).toLoadRect (View.loadsAt_vmem h_S1x1x32x16)) fun l' : Vec F S1x1x32x16 .f32 =>
  .op (.load sM (rSr 0).toLoadRect (View.loadsAt_vmem h_S1x32x16)) fun _ =>
  .op (.store sM (rSr 0) (k0_pay112 (k0_pay106 m) m') Finset.univ (View.stores_vmem_bits_univ h_S1x32x16 rfl) (.inl rfl)) fun _ =>
  .op (.load sM (rSr 1).toLoadRect (View.loadsAt_vmem h_S1x32x16)) fun _ =>
  .op (.store sM (rSr 1) (k0_pay113 (k0_pay106 m) (k0_pay107 l) m' l') Finset.univ (View.stores_vmem_bits_univ h_S1x32x16 rfl) (.inl rfl)) fun _ =>
  steps16 (mixK s (k0_pay110 (k0_pay106 m) m') (k0_pay111 (k0_pay106 m) m')) k

/-- The barrier: one unit to each of the three peers, three units taken. -/
def barrierK (c : Dev nD) (k : BodyProg F) : BodyProg F :=
  .op (.semSignal (peerB 0 c, .tc) (sig.barrier 0 rfl) 1) fun _ =>
  .op (.semSignal (peerB 1 c, .tc) (sig.barrier 0 rfl) 1) fun _ =>
  .op (.semSignal (peerB 2 c, .tc) (sig.barrier 0 rfl) 1) fun _ =>
  .op (.semWait (sig.barrier 0 rfl) 3) fun _ =>
  k

/-- The body. -/
def kbody : BodyProg F :=
  .op .deviceId fun c : Dev nD =>
  .op (.load tM (Rect.unit (s := S1) ![0] S1.size inb_S1_S1_0).toLoadRect (View.loadsAt_rect (View.loads_smem_one rfl numel1_S1))) fun t =>
  .op (.load btM (Rect.unit (s := S32x256) ![0, 0] S32x256.size inb_S32x256_S32x256_0_0).toLoadRect (View.loadsAt_vmem h_S32x256)) fun bt : Vec F S32x256 .i32 =>
  .op (.load lnM (Rect.unit (s := S32x1) ![0, 0] S32x1.size inb_S32x1_S32x1_0_0).toLoadRect (View.loadsAt_vmem h_S32x1)) fun ln : Vec F S32x1 .i32 =>
  steps16 (headK (k0_pay1 c (t (Shape.Idx.first (numel1_S1.symm ▸ Nat.one_pos))) bt ln) (k0_pay2 c (t (Shape.Idx.first (numel1_S1.symm ▸ Nat.one_pos))) bt ln)) <|
  barrierK c <|
  talkK c 0 <| combineK 0 <|
  talkK c 1 <| combineK 1 <|
  talkK c 2 <| combineK 2 <|
  .op (.load sM (rSr 1).toLoadRect (View.loadsAt_vmem h_S1x32x16)) fun l : Vec F S1x32x16 .f32 =>
  steps16 (outK (k0_pay107 l)) (.ret ⟨⟩)

set_option maxRecDepth 100000 in
set_option maxHeartbeats 0 in
/-- The printed body is the looped one. -/
theorem body_eq (i : grid0.Coords) (h2 h3 h4 h5 h6 h7) :
    cc0_body_skel (F := F) i tM (Memref.isWhole_whole _) qM h2 kM h3 vM h4 btM h5 lnM h6 oM h7 aM (Memref.isWhole_whole _)
      sM (Memref.isWhole_whole _) raM (Memref.isWhole_whole _) rsM (Memref.isWhole_whole _) cc0_scratch4 = kbody := by
  chain_rfl

end Cert.KernelIdeal.Paged
-- ==== Proof.KernelIdeal.Values.lean ====
module

public import proofs.«01_k».proof.Proof.KernelIdeal.Loop
public import Idealize.ShloMosaic.Lib.VecWindow

/-!
# What the buffers hold

Each device's scratch contents at every point of the kernel, as functions of what all the devices were given.  A device
starts from its own pages (`acc0`, `st0`); at stage `s` its accumulator and statistics are mixed with those of its peer
of that stage (`accAt`, `stAt`); the output is the last accumulator over the last sums (`outAt`).
-/

@[expose] public section

set_option synthInstance.maxSize 4096

noncomputable section

namespace Cert.KernelIdeal.Paged

open Idealize.ShloMosaic Idealize.SL.Sem Cert.KernelIdeal.Gen

variable {F : FTy → Type} [FloatOps F]

/-- What one device's kernel is given: its word of the table, the queries, its pages, the block table and the lengths. -/
structure In (F : FTy → Type) [FloatOps F] where
  /-- Which quarter of the device's pages is ours. -/
  t : Vec F S1 .i32
  /-- The queries. -/
  q : Vec F S32x1x16x128 .bf16
  /-- Our pages of the keys. -/
  k : Vec F S64x32x16x128 .bf16
  /-- Our pages of the values. -/
  v : Vec F S64x32x16x128 .bf16
  /-- The block table. -/
  bt : Vec F S32x256 .i32
  /-- The lengths. -/
  ln : Vec F S32x1 .i32

/-! ## The peers -/

/-- The peer of stage `s`. -/
abbrev peer (s : Fin 3) (c : Dev nD) : Dev nD := peerB s c

/-- The device that the printed copy of the accumulator names is the stage's peer. -/
theorem peerA_eq (s : Fin 3) (c : Dev nD) : peerA s c = peer s c := by revert s c; decide
/-- The device that the printed copy of the statistics names is the stage's peer. -/
theorem peerS_eq (s : Fin 3) (c : Dev nD) : peerS s c = peer s c := by revert s c; decide
/-- The peer's peer is the device itself. -/
theorem peer_peer (s : Fin 3) (c : Dev nD) : peer s (peer s c) = c := by revert s c; decide
/-- The three peers of a device differ. -/
theorem peer_inj (s s' : Fin 3) (c : Dev nD) (h : peer s c = peer s' c) : s = s' := by revert s s' c; decide

/-- Trading places with the peer of stage `s`. -/
def swap (s : Fin 3) : Dev nD ≃ Dev nD := ⟨peer s, peer s, peer_peer s, peer_peer s⟩

/-! ## Contents made of pieces -/

/-- An accumulator, given each head's rows. -/
def ofRows (p : Fin 16 → Vec F S32x128 .f32) : Vec F S512x128 .f32 :=
  fun i => p ⟨(i 0).val / 32, by have : (i 0).val < 512 := (i 0).isLt; omega⟩
    (fun a => match a with | 0 => ⟨(i 0).val % 32, Nat.mod_lt _ (by decide)⟩ | 1 => i 1)

/-- Statistics, given each head's column of the maxima and of the sums. -/
def ofCols (p : Fin 2 → Fin 16 → Vec F S1x32x1 .f32) : Vec F S2x32x16 .f32 :=
  fun i => p (i 0) (i 2) (fun a => match a with | 0 => ⟨0, by decide⟩ | 1 => i 1 | 2 => ⟨0, by decide⟩)

/-- Statistics, given all the maxima and all the sums. -/
def ofPair (p : Fin 2 → Vec F S1x32x16 .f32) : Vec F S2x32x16 .f32 :=
  fun i => p (i 0) (fun a => match a with | 0 => ⟨0, by decide⟩ | 1 => i 1 | 2 => i 2)

/-- An output, given each head's part. -/
def ofHeads (p : Fin 16 → Vec F S32x1x1x128 .f32) : Vec F S32x1x16x128 .f32 :=
  fun i => p (i 2) (fun a => match a with | 0 => i 0 | 1 => ⟨0, by decide⟩ | 2 => ⟨0, by decide⟩ | 3 => i 3)

/-- A landing buffer for accumulators, every slot of it holding `x`. -/
def landA (x : Vec F S512x128 .f32) : Vec F S3x512x128 .f32 :=
  fun i => x (fun a => match a with | 0 => i 1 | 1 => i 2)
/-- A landing buffer for statistics, every slot of it holding `x`. -/
def landS (x : Vec F S2x32x16 .f32) : Vec F S3x2x32x16 .f32 :=
  fun i => x (fun a => match a with | 0 => i 1 | 1 => i 2 | 2 => i 3)

/-! ## Windows -/

/-- Head `h` of the queries. -/
def qAt (x : Vec F S32x1x16x128 .bf16) (h : Fin 16) : Vec F S32x1x1x128 .bf16 :=
  VecWindow.window x ![0, 0, h.val, 0] S32x1x1x128.size (inb_q h)
/-- Head `h` of a block of pages. -/
def kAt (x : Vec F S64x32x16x128 .bf16) (h : Fin 16) : Vec F S64x32x1x128 .bf16 :=
  VecWindow.window x ![0, 0, h.val, 0] S64x32x1x128.size (inb_k h)
/-- Head `h`'s rows of an accumulator. -/
def aAt (x : Vec F S512x128 .f32) (h : Fin 16) : Vec F S32x128 .f32 :=
  VecWindow.window x ![32 * h.val, 0] S32x128.size (inb_a h)
/-- Head `h`'s column of the maxima (`j = 0`) or sums (`j = 1`). -/
def cAt (x : Vec F S2x32x16 .f32) (j : Fin 2) (h : Fin 16) : Vec F S1x32x1 .f32 :=
  VecWindow.window x ![j.val, 0, h.val] S1x32x1.size (inb_s j h)
/-- All the maxima or all the sums. -/
def sAt (x : Vec F S2x32x16 .f32) (j : Fin 2) : Vec F S1x32x16 .f32 :=
  VecWindow.window x ![j.val, 0, 0] S1x32x16.size (inb_sr j)
/-- The maxima or sums landed at stage `s`. -/
def rsAt (x : Vec F S3x2x32x16 .f32) (s : Fin 3) (j : Fin 2) : Vec F S1x1x32x16 .f32 :=
  VecWindow.window x ![s.val, j.val, 0, 0] S1x1x32x16.size (inb_rs s j)
/-- Head `h`'s rows of the accumulator landed at stage `s`. -/
def raAt (x : Vec F S3x512x128 .f32) (s : Fin 3) (h : Fin 16) : Vec F S1x32x128 .f32 :=
  VecWindow.window x ![s.val, 32 * h.val, 0] S1x32x128.size (inb_ra s h)
/-- Head `h` of an output. -/
def oAt (x : Vec F S32x1x16x128 .f32) (h : Fin 16) : Vec F S32x1x1x128 .f32 :=
  VecWindow.window x ![0, 0, h.val, 0] S32x1x1x128.size (inb_q h)

/-- An accumulator is made of its heads' rows. -/
theorem ext_rows (x : Vec F S512x128 .f32) (p : Fin 16 → Vec F S32x128 .f32) (H : ∀ h, aAt x h = p h) : x = ofRows p := by
  funext i
  have hi : (i 0).val < 512 := (i 0).isLt
  refine Eq.trans ?_ (congrFun (H _) _)
  unfold aAt VecWindow.window
  refine congrArg x (funext fun a => Fin.ext ?_)
  rw [Rect.emb_apply]
  match a with
  | 0 => show (i 0).val = 32 * ((i 0).val / 32) + 1 * ((i 0).val % 32); omega
  | 1 => show (i 1).val = 0 + 1 * (i 1).val; omega

/-- The statistics are made of their heads' columns. -/
theorem ext_cols (x : Vec F S2x32x16 .f32) (p : Fin 2 → Fin 16 → Vec F S1x32x1 .f32) (H : ∀ j h, cAt x j h = p j h) : x = ofCols p := by
  funext i
  refine Eq.trans ?_ (congrFun (H (i 0) (i 2)) _)
  unfold cAt VecWindow.window
  refine congrArg x (funext fun a => Fin.ext ?_)
  rw [Rect.emb_apply]
  match a with
  | 0 => show (i 0).val = (i 0).val + 1 * 0; omega
  | 1 => show (i 1).val = 0 + 1 * (i 1).val; omega
  | 2 => show (i 2).val = (i 2).val + 1 * 0; omega

/-- The statistics are made of the two. -/
theorem ext_pair (x : Vec F S2x32x16 .f32) (p : Fin 2 → Vec F S1x32x16 .f32) (H : ∀ j, sAt x j = p j) : x = ofPair p := by
  funext i
  refine Eq.trans ?_ (congrFun (H (i 0)) _)
  unfold sAt VecWindow.window
  refine congrArg x (funext fun a => Fin.ext ?_)
  rw [Rect.emb_apply]
  match a with
  | 0 => show (i 0).val = (i 0).val + 1 * 0; omega
  | 1 => show (i 1).val = 0 + 1 * (i 1).val; omega
  | 2 => show (i 2).val = 0 + 1 * (i 2).val; omega

/-- An output is made of its heads. -/
theorem ext_heads (x : Vec F S32x1x16x128 .f32) (p : Fin 16 → Vec F S32x1x1x128 .f32) (H : ∀ h, oAt x h = p h) : x = ofHeads p := by
  funext i
  have h1 : (i 1).val < 1 := (i 1).isLt
  refine Eq.trans ?_ (congrFun (H (i 2)) _)
  unfold oAt VecWindow.window
  refine congrArg x (funext fun a => Fin.ext ?_)
  rw [Rect.emb_apply]
  match a with
  | 0 => show (i 0).val = 0 + 1 * (i 0).val; omega
  | 1 => show (i 1).val = 0 + 1 * 0; omega
  | 2 => show (i 2).val = (i 2).val + 1 * 0; omega
  | 3 => show (i 3).val = 0 + 1 * (i 3).val; omega

/-! ## The local attention -/

/-- The device's word of the table. -/
def word (x : In F) : Elt F .i32 :=
  VecWindow.window x.t ![0] S1.size inb_S1_S1_0 (Shape.Idx.first (numel1_S1.symm ▸ Nat.one_pos))

/-- How often each request's live block table names each of our positions' pages. -/
def wt (x : In F) (c : Dev nD) : FVec F S32x2048 .f32 := k0_pay1 c (word x) x.bt x.ln
/-- Whether it names it at all. -/
def hs (x : In F) (c : Dev nD) : IVec S32x2048 1 := k0_pay2 c (word x) x.bt x.ln

/-- The accumulator after the local attention. -/
def acc0 (x : In F) (c : Dev nD) : Vec F S512x128 .f32 :=
  ofRows fun h => k0_pay6 (wt x c) (hs x c) (qAt x.q h) (kAt x.k h) (kAt x.v h)
/-- The statistics after the local attention. -/
def st0 (x : In F) (c : Dev nD) : Vec F S2x32x16 .f32 :=
  ofCols fun j h => if j = 0 then k0_pay7 (hs x c) (qAt x.q h) (kAt x.k h) else k0_pay8 (wt x c) (hs x c) (qAt x.q h) (kAt x.k h)

/-! ## The stages -/

/-- Our factor of a mixing: the exponential of our maximum less the new one. -/
def alOf (s : Fin 3) (st st' : Vec F S2x32x16 .f32) : FVec F S32x16 .f32 :=
  k0_pay110 (k0_pay106 (sAt st 0)) (rsAt (landS st') s 0)
/-- The peer's factor. -/
def beOf (s : Fin 3) (st st' : Vec F S2x32x16 .f32) : FVec F S32x16 .f32 :=
  k0_pay111 (k0_pay106 (sAt st 0)) (rsAt (landS st') s 0)

/-- Statistics mixed: the larger maxima, and the sums scaled to them and added. -/
def mixSt (s : Fin 3) (st st' : Vec F S2x32x16 .f32) : Vec F S2x32x16 .f32 :=
  ofPair fun j => if j = 0 then k0_pay112 (k0_pay106 (sAt st 0)) (rsAt (landS st') s 0)
    else k0_pay113 (k0_pay106 (sAt st 0)) (k0_pay107 (sAt st 1)) (rsAt (landS st') s 0) (rsAt (landS st') s 1)

/-- Accumulators mixed with the same factors. -/
def mixAcc (s : Fin 3) (st st' : Vec F S2x32x16 .f32) (a a' : Vec F S512x128 .f32) : Vec F S512x128 .f32 :=
  ofRows fun h => mixPay h (alOf s st st') (beOf s st st') (aAt a h) (raAt (landA a') s h)

/-- The stage by its number. -/
def stage (n : ℕ) : Fin 3 := ⟨n % 3, Nat.mod_lt _ (by decide)⟩
/-- The stage with a stage's number is that stage. -/
theorem stage_val (s : Fin 3) : stage s.val = s := by revert s; decide

/-- A device's statistics after `n` stages. -/
def stAt (X : Dev nD → In F) : ℕ → Dev nD → Vec F S2x32x16 .f32
  | 0, c => st0 (X c) c
  | n + 1, c => mixSt (stage n) (stAt X n c) (stAt X n (peer (stage n) c))
/-- A device's accumulator after `n` stages. -/
def accAt (X : Dev nD → In F) : ℕ → Dev nD → Vec F S512x128 .f32
  | 0, c => acc0 (X c) c
  | n + 1, c => mixAcc (stage n) (stAt X n c) (stAt X n (peer (stage n) c)) (accAt X n c) (accAt X n (peer (stage n) c))

/-- The statistics after a stage are the mix of this device's and the peer's. -/
theorem stAt_succ (X : Dev nD → In F) (s : Fin 3) (c : Dev nD) :
    stAt X (s.val + 1) c = mixSt s (stAt X s.val c) (stAt X s.val (peer s c)) := by
  show mixSt (stage s.val) _ (stAt X s.val (peer (stage s.val) c)) = _; rw [stage_val]
/-- The accumulator after a stage is the mix of this device's and the peer's. -/
theorem accAt_succ (X : Dev nD → In F) (s : Fin 3) (c : Dev nD) :
    accAt X (s.val + 1) c
      = mixAcc s (stAt X s.val c) (stAt X s.val (peer s c)) (accAt X s.val c) (accAt X s.val (peer s c)) := by
  show mixAcc (stage s.val) _ (stAt X s.val (peer (stage s.val) c)) _ (accAt X s.val (peer (stage s.val) c)) = _; rw [stage_val]

/-- A device's output. -/
def outAt (X : Dev nD → In F) (c : Dev nD) : Vec F S32x1x16x128 .f32 :=
  ofHeads fun h => outPay h (k0_pay107 (sAt (stAt X 3 c) 1)) (aAt (accAt X 3 c) h)

end Cert.KernelIdeal.Paged
-- ==== Proof.KernelIdeal.Sched.lean ====
module

public import proofs.«01_k».proof.Proof.KernelIdeal.Values
public import Idealize.ShloMosaic.Lib.Pipeline.Kit
public import Idealize.ShloMosaic.Lib.Rounds
public import Idealize.ShloMosaic.Lib.StableHlo
public import Idealize.ShloMosaic.Lib.Tactic

/-!
# The protocol

Every device has a barrier cell and twelve transfer cells, four per stage.

* The barrier cell expects three units, one from each peer.  The peer of stage `s` hands over with its unit its two landing
  slots of stage `s`, and that its two arrival cells of that stage are open.
* The two send cells of stage `s` give a device its accumulator and its statistics back.
* The two arrival cells of stage `s` give a device its landing slots back, holding what its peer held after `s` stages.

A device owes, at the start, a unit to each peer's barrier and the two arrivals of each stage to that stage's peer; it pays
them in the order of the stages, and the levels grow in that order.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-- The protocol's resources beside the pipeline library's: the duties of a barrier cell are numbered by the stage. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Cells -/

/-- The barrier semaphore. -/
abbrev barS : Sem sig := sig.barrier 0 rfl
/-- Device `c`'s barrier cell. -/
abbrev barC (c : Dev nD) : GSem nD τ sig := ((c : Thread nD τ), .reg barS)
/-- Device `c`'s transfer cell `j`. -/
abbrev xC (j : Fin 12) (c : Dev nD) : GSem nD τ sig := ((c : Thread nD τ), .dma (semN j))

/-- Different transfer semaphores have different numbers. -/
theorem semN_inj (j j' : Fin 12) (h : semN j = semN j') : j = j' := by revert j j'; decide
/-- A transfer semaphore determines its stage and its role. -/
theorem semI_inj (s s' : Fin 3) (k k' : Fin 4) (h : semI s k = semI s' k') : s = s' ∧ k = k' := by revert s s' k k'; decide

/-- The transfer cell a semaphore is, if it is one. -/
def decJ : SemLoc sig → Option (Fin 12)
  | .dma q => if h : 6 ≤ q.val then some ⟨q.val - 6, by have : q.val < 18 := q.isLt; omega⟩ else none
  | .reg _ => none

/-- A transfer semaphore's location is decoded to its index. -/
theorem decJ_semN (j : Fin 12) : decJ (.dma (semN j)) = some j := by revert j; decide
/-- The barrier's location is no transfer semaphore's. -/
theorem decJ_bar : decJ (.reg barS) = none := rfl

/-- The stage of a transfer cell. -/
def jS (j : Fin 12) : Fin 3 := ⟨j.val / 4, by omega⟩
/-- Which of the stage's four cells it is. -/
def jK (j : Fin 12) : Fin 4 := ⟨j.val % 4, by omega⟩
/-- The stage of a transfer semaphore. -/
theorem jS_semI (s : Fin 3) (k : Fin 4) : jS (semI s k) = s := by revert s k; decide
/-- The role of a transfer semaphore. -/
theorem jK_semI (s : Fin 3) (k : Fin 4) : jK (semI s k) = k := by revert s k; decide
/-- A transfer semaphore is the one of its stage and role. -/
theorem semI_jSK (j : Fin 12) : semI (jS j) (jK j) = j := by revert j; decide

/-! ## Buffers -/

/-- Device `c`'s buffer `b`, whole, holding `f`. -/
abbrev pt (c : Dev nD) (b : Ref sig .tc) (f : b.ty.Contents (Elt F)) : sProp 𝕄 := (Memref.whole b).view.loc (c : Thread nD τ) ↦{fullShare} f
/-- Device `c`'s slot of stage `s` for an accumulator, its elements as in `f`. -/
def raP (s : Fin 3) (c : Dev nD) (f : Vec F S3x512x128 .f32) : sProp 𝕄 :=
  (raS s).view.loc (c : Thread nD τ) ↦[(raS s).view.set]{fullShare} f
/-- Device `c`'s slot of stage `s` for statistics, its elements as in `f`. -/
def rsP (s : Fin 3) (c : Dev nD) (f : Vec F S3x2x32x16 .f32) : sProp 𝕄 :=
  (rsS s).view.loc (c : Thread nD τ) ↦[(rsS s).view.set]{fullShare} f

/-! ## The schedule -/

/-- The credit of one accumulator's transfer. -/
abbrev NA : ℕ := (aM : Memref sig .tc .vmem S512x128 .f32).view.dmaCredit
/-- The credit of one transfer of statistics. -/
abbrev NS : ℕ := (sM : Memref sig .tc .vmem S2x32x16 .f32).view.dmaCredit
/-- A copy of the accumulator moves something. -/
theorem NA_pos : 0 < NA := View.dmaCredit_pos _ (by decide)
/-- A copy of the statistics moves something. -/
theorem NS_pos : 0 < NS := View.dmaCredit_pos _ (by decide)

/-- The credit of a stage's `k`-th cell. -/
def amt (k : Fin 4) : ℕ := if k.val < 2 then NA else NS
/-- Every transfer's amount is positive. -/
theorem amt_pos (k : Fin 4) : 0 < amt k := by unfold amt; split; exacts [NA_pos, NS_pos]

variable (X : Dev nD → In F)

/-- Paid to device `c`'s barrier by its peer of stage `s`. -/
def barPay (s : Fin 3) (c : Dev nD) : sProp 𝕄 :=
  iprop((∃ f, raP s (peer s c) f) ∗ (∃ f, rsP s (peer s c) f)
    ∗ reached ER (xC (semI s 1) (peer s c)) 0 ∗ reached ER (xC (semI s 3) (peer s c)) 0)

/-- Paid to device `c`'s `k`-th cell of stage `s`. -/
def xPay (s : Fin 3) (k : Fin 4) (c : Dev nD) : sProp 𝕄 :=
  match k with
  | 0 => pt c cc0_scratch0 (accAt X s.val c)
  | 1 => raP s c (landA (accAt X s.val (peer s c)))
  | 2 => pt c cc0_scratch1 (stAt X s.val c)
  | 3 => rsP s c (landS (stAt X s.val (peer s c)))

/-- The rounds of every cell: one round, three duties on a barrier and one on a transfer cell. -/
def sched : Rounds.Schedule (GSem nD τ sig) (Fin 3) 𝕄 where
  duties g r := if r = 0 then (match decJ g.2 with
    | some _ => {0}
    | none => if g.2 = .reg barS then Finset.univ else ∅) else ∅
  unitless _ := False
  amount g _ _ := match decJ g.2 with
    | some j => amt (jK j)
    | none => 1
  payload g _ d := match decJ g.2 with
    | some j => xPay X (jS j) (jK j) g.1.1
    | none => barPay d g.1.1
  amount_pos g _ _ _ := by
    split
    · exact amt_pos _
    · exact Nat.one_pos

instance sched_payload_storable (g : GSem nD τ sig) (r : ℕ) (d : Fin 3) :
    BI.Storable (upEmb : UEmb _ 𝕄) ((sched (F := F) X).payload g r d) := by
  show BI.Storable upEmb (match decJ g.2 with
    | some j => xPay X (jS j) (jK j) g.1.1
    | none => barPay d g.1.1)
  cases decJ g.2 with
  | none => dsimp only; unfold barPay raP rsP; infer_instance
  | some j =>
    dsimp only
    generalize jK j = k
    fin_cases k <;> (dsimp only [xPay, raP, rsP]; infer_instance)

section Tables

variable (c : Dev nD) (s : Fin 3) (k : Fin 4) (d : Fin 3) (j : Fin 12)

/-- A barrier has one duty for each of the three peers. -/
theorem duties_bar : (sched (F := F) X).duties (barC c) 0 = Finset.univ := by
  dsimp only [sched]; rw [if_pos rfl, decJ_bar]; exact if_pos rfl
/-- A transfer cell has one duty. -/
theorem duties_x : (sched (F := F) X).duties (xC j c) 0 = {0} := by
  dsimp only [sched]; rw [if_pos rfl, decJ_semN]
/-- No cell has duties after the first round. -/
theorem duties_later (g : GSem nD τ sig) : ∀ r, 1 ≤ r → (sched (F := F) X).duties g r = ∅ :=
  fun r hr => by dsimp only [sched]; exact if_neg (by omega)
/-- A barrier's duty is a signal of one. -/
theorem amount_bar : (sched (F := F) X).amount (barC c) 0 d = 1 := by
  dsimp only [sched]; rw [decJ_bar]
/-- A transfer's duty is its amount. -/
theorem amount_x : (sched (F := F) X).amount (xC (semI s k) c) 0 d = amt k := by
  dsimp only [sched]; rw [decJ_semN]; dsimp only; rw [jK_semI]
/-- What a barrier's duty hands over. -/
theorem payload_bar : (sched (F := F) X).payload (barC c) 0 d = barPay d c := by
  dsimp only [sched]; rw [decJ_bar]
/-- What a transfer's duty hands over. -/
theorem payload_x : (sched (F := F) X).payload (xC (semI s k) c) 0 d = xPay X s k c := by
  dsimp only [sched]; rw [decJ_semN]; dsimp only; rw [jK_semI, jS_semI]
/-- A barrier expects three. -/
theorem expect_bar : (sched (F := F) X).expect (barC c) 0 = 3 := by
  unfold Schedule.expect Schedule.amountOf
  rw [duties_bar, Finset.sum_congr rfl fun d _ => amount_bar X c d]; rfl
/-- A transfer cell expects its amount. -/
theorem expect_x : (sched (F := F) X).expect (xC (semI s k) c) 0 = amt k := by
  unfold Schedule.expect Schedule.amountOf; rw [duties_x, Finset.sum_singleton, amount_x]
/-- What a wait for the barrier receives: what the three peers hand over. -/
theorem rest_bar : bigSep ((sched (F := F) X).duties (barC c) 0 \ ∅) (fun d => (sched (F := F) X).payload (barC c) 0 d)
    = bigSep Finset.univ fun d => barPay (F := F) d c := by
  rw [Finset.sdiff_empty, duties_bar]; exact bigSep_congr fun d _ => payload_bar X c d
/-- What a wait for a transfer receives. -/
theorem rest_x : bigSep ((sched (F := F) X).duties (xC (semI s k) c) 0 \ ∅) (fun d => (sched (F := F) X).payload (xC (semI s k) c) 0 d)
    = xPay X s k c := by
  rw [Finset.sdiff_empty, duties_x, bigSep_singleton, payload_x]

end Tables

/-! ## What is owed, and the levels -/

/-- What remains owed before stage `3 - n`, stage by stage: the statistics' arrival and the accumulator's, at the stage's peer. -/
def oweX : ℕ → Dev nD → CellTallies nD τ sig Unit
  | 0, _ => 0
  | n + 1, c => (oweX n c + tallyAt (xC (semI (stage (2 - n)) 3) (peer (stage (2 - n)) c)) () (amt 3))
      + tallyAt (xC (semI (stage (2 - n)) 1) (peer (stage (2 - n)) c)) () (amt 1)

/-- What a device owes at launch. -/
def O₀ (c : Dev nD) : CellTallies nD τ sig Unit :=
  ((oweX 3 c + tallyAt (barC (peer 2 c)) () 1) + tallyAt (barC (peer 1 c)) () 1) + tallyAt (barC (peer 0 c)) () 1

def L (g : GSem nD τ sig) : Finset Unit := if g.1.2 = .tc then {()} else ∅
/-- Send cells (and the pipeline's) at 0, the barrier at 1, the arrivals of stage `s` at `s + 2`. -/
def lv (g : GSem nD τ sig) (_ : Unit) : ℕ :=
  match decJ g.2 with
  | some j => if (jK j).val % 2 = 1 then (jS j).val + 2 else 0
  | none => if g.2 = .reg barS then 1 else 0

/-- Only the cells of the tensor cores carry obligations. -/
theorem L_of_ne (g : GSem nD τ sig) (h : g.1.2 ≠ .tc) : L g = ∅ := if_neg h
/-- The cells of the tensor cores do. -/
theorem L_tc (c : Dev nD) (sm : SemLoc sig) : L ((c : Thread nD τ), sm) = {()} := if_pos rfl
/-- The barrier's level is one. -/
theorem lv_bar (c : Dev nD) : lv (barC c) () = 1 := by unfold lv; rw [decJ_bar]; exact if_pos rfl
/-- An arrival's level is two more than its stage; a departure's is zero. -/
theorem lv_x (s : Fin 3) (k : Fin 4) (c : Dev nD) : lv (xC (semI s k) c) () = if k.val % 2 = 1 then s.val + 2 else 0 := by
  unfold lv; rw [decJ_semN]; dsimp only; rw [jK_semI, jS_semI]

/-- `O` is owed on TensorCore cells above level `n` alone. -/
def Above (n : ℕ) (O : CellTallies nD τ sig Unit) : Prop := ∀ g u, 0 < O g u → g.1.2 = .tc ∧ n < lv g u

/-- Obligations above a level add up to obligations above it. -/
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  exacts [h g u hg, h' g u hg]
/-- No obligation is above every level. -/
theorem Above.zero (n : ℕ) : Above n 0 := fun g u hg => absurd hg (Nat.lt_irrefl 0)
/-- An obligation to one cell is above every level below the cell's. -/
theorem Above.tally {n : ℕ} (c : Dev nD) (sm : SemLoc sig) (N : ℕ) (h : n < lv ((c : Thread nD τ), sm) ()) :
    Above n (tallyAt ((c : Thread nD τ), sm) () N) := fun g u hg => by
  rw [tallyAt_apply] at hg
  split at hg
  · next e => rw [e.1]; exact ⟨rfl, h⟩
  · exact absurd hg (Nat.lt_irrefl 0)

/-- A device may wait on a cell while it owes only above its level. -/
theorem mayWait (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- The arrivals still owed lie above the levels of the stages that are over. -/
theorem above_oweX (n : ℕ) (c : Dev nD) (hn : n ≤ 3) : Above (4 - n) (oweX n c) := by
  induction n with
  | zero => exact Above.zero _
  | succ n ih =>
    have hs : (stage (2 - n)).val = 2 - n := by unfold stage; show (2 - n) % 3 = 2 - n; omega
    refine Above.add (Above.add (fun g u hg => ?_) (Above.tally _ _ _ ?_)) (Above.tally _ _ _ ?_)
    · have := ih (by omega) g u hg; exact ⟨this.1, by omega⟩
    · rw [lv_x, hs, if_pos (by decide)]; omega
    · rw [lv_x, hs, if_pos (by decide)]; omega

/-- What a device owes at the start lies above level zero. -/
theorem above_O₀ (c : Dev nD) : Above 0 (O₀ c) := by
  unfold O₀
  refine Above.add (Above.add (Above.add (fun g u hg => ?_) (Above.tally _ _ _ ?_)) (Above.tally _ _ _ ?_)) (Above.tally _ _ _ ?_)
  · have := above_oweX 3 c (Nat.le_refl 3) g u hg; exact ⟨this.1, by omega⟩
  all_goals rw [lv_bar]; decide

end Cert.KernelIdeal.Paged
-- ==== Proof.KernelIdeal.Steps.lean ====
module

public import proofs.«01_k».proof.Proof.KernelIdeal.Sched
public import Idealize.ShloMosaic.Lib.Pipeline.Value

/-!
# The loops over the heads

What the sixteen steps of each loop leave in the buffers: the local attention, a combining step, the output.  Each loop's
invariant says of the heads already done what their window holds.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

abbrev 𝒱₀ : Variants := Variants.none

/-- The body `p` run on device `c`'s TensorCore to `Q`. -/
abbrev wpB (c : Dev nD) (p : BodyProg F) (Q : PUnit → sProp 𝕄) : sProp 𝕄 :=
  wp frame (wpE (defs₀ (F := F)) 𝒱₀ (c : Thread nD τ) none) Set.univ p Q

/-! ## A loop of sixteen steps -/

/-- One of sixteen steps of an unrolled loop: the step's rule and the rest of the program give the whole. -/
theorem wp_step16 (c : Dev nD) (Q : PUnit → sProp 𝕄) (core : ℕ → sProp 𝕄) (W : sProp 𝕄) (f : Fin 16 → BodyProg F → BodyProg F) (h : Fin 16)
    (k : BodyProg F) (hf : ∀ k, iprop(core h.val ∗ (core (h.val + 1) -∗ wpB c k Q)) ⊢ wpB c (f h k) Q)
    (hk : iprop(core (h.val + 1) ∗ W) ⊢ wpB c k Q) : iprop(core h.val ∗ W) ⊢ wpB c (f h k) Q := by
  refine BIBase.Entails.trans ?_ (hf k)
  iintro ⟨H, HW⟩
  isplitl [H]; · iexact H
  iintro H
  iapply hk
  isplitl [H]; · iexact H
  iexact HW

/-- Sixteen steps keep an invariant numbered by the heads done. -/
theorem wp_steps16 (c : Dev nD) (Q : PUnit → sProp 𝕄) (core : ℕ → sProp 𝕄) (f : Fin 16 → BodyProg F → BodyProg F) (k : BodyProg F)
    (hf : ∀ (h : Fin 16) k, iprop(core h.val ∗ (core (h.val + 1) -∗ wpB c k Q)) ⊢ wpB c (f h k) Q) :
    iprop(core 0 ∗ (core 16 -∗ wpB c k Q)) ⊢ wpB c (steps16 f k) Q := by
  have st := fun (h : Fin 16) k => wp_step16 c Q core iprop(core 16 -∗ wpB c k Q) f h
  have last : iprop(core 16 ∗ (core 16 -∗ wpB c k Q)) ⊢ wpB c k Q := by
    iintro ⟨H, HW⟩; iapply HW; iexact H
  exact st 0 k _ (hf 0) (st 1 k _ (hf 1) (st 2 k _ (hf 2) (st 3 k _ (hf 3) (st 4 k _ (hf 4) (st 5 k _ (hf 5) (st 6 k _ (hf 6) (st 7 k _ (hf 7)
    (st 8 k _ (hf 8) (st 9 k _ (hf 9) (st 10 k _ (hf 10) (st 11 k _ (hf 11) (st 12 k _ (hf 12) (st 13 k _ (hf 13) (st 14 k _ (hf 14)
    (st 15 k _ (hf 15) last)))))))))))))))

/-! ## What a store leaves -/

/-- A store of a head's rows of the accumulator, as contents. -/
theorem write_a (A : Vec F S512x128 .f32) (h : Fin 16) (w : Vec F S32x128 .f32) :
    (aM.access (rA h)).write (Elt F) A w Finset.univ = VecWindow.put (s := S512x128) A ![32 * h.val, 0] S32x128.size w :=
  (View.write_whole_slice_unit cc0_scratch0 _ _ (inb_a h) A w).trans (VecWindow.put_eq_updateSlice (s := S512x128) A _ _ (inb_a h) w).symm
/-- A store of a head's column of one statistic, as contents. -/
theorem write_s (S : Vec F S2x32x16 .f32) (j : Fin 2) (h : Fin 16) (w : Vec F S1x32x1 .f32) :
    (sM.access (rS j h)).write (Elt F) S w Finset.univ = VecWindow.put (s := S2x32x16) S ![j.val, 0, h.val] S1x32x1.size w :=
  (View.write_whole_slice_unit cc0_scratch1 _ _ (inb_s j h) S w).trans (VecWindow.put_eq_updateSlice (s := S2x32x16) S _ _ (inb_s j h) w).symm
/-- A store of one whole statistic, as contents. -/
theorem write_sr (S : Vec F S2x32x16 .f32) (j : Fin 2) (w : Vec F S1x32x16 .f32) :
    (sM.access (rSr j)).write (Elt F) S w Finset.univ = VecWindow.put (s := S2x32x16) S ![j.val, 0, 0] S1x32x16.size w :=
  (View.write_whole_slice_unit cc0_scratch1 _ _ (inb_sr j) S w).trans (VecWindow.put_eq_updateSlice (s := S2x32x16) S _ _ (inb_sr j) w).symm
/-- A store of a head of the output, as contents. -/
theorem write_o (o : Vec F S32x1x16x128 .f32) (h : Fin 16) (w : Vec F S32x1x1x128 .f32) :
    (oM.access (rQ h)).write (Elt F) o w Finset.univ = VecWindow.put (s := S32x1x16x128) o ![0, 0, h.val, 0] S32x1x1x128.size w :=
  (View.write_whole_slice_unit cc0_stg5_0 _ _ (inb_q h) o w).trans (VecWindow.put_eq_updateSlice (s := S32x1x16x128) o _ _ (inb_q h) w).symm

/-- The rows of a head after a store of some head's rows. -/
theorem aAt_put (A : Vec F S512x128 .f32) (h h' : Fin 16) (w : Vec F S32x128 .f32) :
    aAt (VecWindow.put (s := S512x128) A ![32 * h.val, 0] S32x128.size w) h' = if h' = h then w else aAt A h' := by
  split
  · next e => subst e; exact VecWindow.window_put_same _ _ _ (inb_a h') _
  · next e =>
    refine VecWindow.window_put_of_disjoint _ _ _ _ _ (inb_a h') _ (0 : Fin 2) ?_
    have : h'.val ≠ h.val := fun e' => e (Fin.ext e')
    show 32 * h'.val + 32 ≤ 32 * h.val ∨ 32 * h.val + 32 ≤ 32 * h'.val
    omega
/-- The column of a head after a store of some head's column. -/
theorem cAt_put (S : Vec F S2x32x16 .f32) (j j' : Fin 2) (h h' : Fin 16) (w : Vec F S1x32x1 .f32) :
    cAt (VecWindow.put (s := S2x32x16) S ![j.val, 0, h.val] S1x32x1.size w) j' h' = if j' = j ∧ h' = h then w else cAt S j' h' := by
  split
  · next e => obtain ⟨e, e'⟩ := e; subst e; subst e'; exact VecWindow.window_put_same _ _ _ (inb_s j' h') _
  · next e =>
    by_cases ej : j' = j
    · refine VecWindow.window_put_of_disjoint _ _ _ _ _ (inb_s j' h') _ (2 : Fin 3) ?_
      have : h'.val ≠ h.val := fun e' => e ⟨ej, Fin.ext e'⟩
      show h'.val + 1 ≤ h.val ∨ h.val + 1 ≤ h'.val
      omega
    · refine VecWindow.window_put_of_disjoint _ _ _ _ _ (inb_s j' h') _ (0 : Fin 3) ?_
      have : j'.val ≠ j.val := fun e' => ej (Fin.ext e')
      show j'.val + 1 ≤ j.val ∨ j.val + 1 ≤ j'.val
      omega
/-- A statistic after a store of one of the two. -/
theorem sAt_put (S : Vec F S2x32x16 .f32) (j j' : Fin 2) (w : Vec F S1x32x16 .f32) :
    sAt (VecWindow.put (s := S2x32x16) S ![j.val, 0, 0] S1x32x16.size w) j' = if j' = j then w else sAt S j' := by
  split
  · next e => subst e; exact VecWindow.window_put_same _ _ _ (inb_sr j') _
  · next e =>
    refine VecWindow.window_put_of_disjoint _ _ _ _ _ (inb_sr j') _ (0 : Fin 3) ?_
    have : j'.val ≠ j.val := fun e' => e (Fin.ext e')
    show j'.val + 1 ≤ j.val ∨ j.val + 1 ≤ j'.val
    omega
/-- A head of the output after a store of some head. -/
theorem oAt_put (o : Vec F S32x1x16x128 .f32) (h h' : Fin 16) (w : Vec F S32x1x1x128 .f32) :
    oAt (VecWindow.put (s := S32x1x16x128) o ![0, 0, h.val, 0] S32x1x1x128.size w) h' = if h' = h then w else oAt o h' := by
  split
  · next e => subst e; exact VecWindow.window_put_same _ _ _ (inb_q h') _
  · next e =>
    refine VecWindow.window_put_of_disjoint _ _ _ _ _ (inb_q h') _ (2 : Fin 4) ?_
    have : h'.val ≠ h.val := fun e' => e (Fin.ext e')
    show h'.val + 1 ≤ h.val ∨ h.val + 1 ≤ h'.val
    omega

/-! ## The local attention -/

/-- The buffers with the first `n` heads' local attention done. -/
def headCore (x : In F) (c : Dev nD) (n : ℕ) : sProp 𝕄 :=
  iprop(∃ (A : Vec F S512x128 .f32) (S : Vec F S2x32x16 .f32),
    ⌜(∀ h : Fin 16, h.val < n → aAt A h = k0_pay6 (wt x c) (hs x c) (qAt x.q h) (kAt x.k h) (kAt x.v h))
      ∧ ∀ (j : Fin 2) (h : Fin 16), h.val < n → cAt S j h
        = if j = 0 then k0_pay7 (hs x c) (qAt x.q h) (kAt x.k h) else k0_pay8 (wt x c) (hs x c) (qAt x.q h) (kAt x.k h)⌝
    ∗ pt c cc0_stg0_0 x.q ∗ pt c cc0_stg1_0 x.k ∗ pt c cc0_stg2_0 x.v ∗ pt c cc0_scratch0 A ∗ pt c cc0_scratch1 S)

/-- One head of the local attention: its rows of the accumulator and its two statistics are stored. -/
theorem wp_head (x : In F) (c : Dev nD) (Q : PUnit → sProp 𝕄) (h : Fin 16) (k : BodyProg F) :
    iprop(headCore x c h.val ∗ (headCore x c (h.val + 1) -∗ wpB c k Q)) ⊢ wpB c (headK (wt x c) (hs x c) h k) Q := by
  unfold headCore headK
  iintro ⟨⟨%A, %S, %hAS, Hq, Hk, Hv, HA, HS⟩, HW⟩
  iapply (wp_load 𝒱₀ (c : Thread nD τ) none Set.univ (m := qM) (S := Finset.univ) (Finset.subset_univ _)) $$ [Hq]
  · iexact Hq
  iintro Hq
  iapply (wp_load 𝒱₀ (c : Thread nD τ) none Set.univ (m := kM) (S := Finset.univ) (Finset.subset_univ _)) $$ [Hk]
  · iexact Hk
  iintro Hk
  iapply (wp_load 𝒱₀ (c : Thread nD τ) none Set.univ (m := vM) (S := Finset.univ) (Finset.subset_univ _)) $$ [Hv]
  · iexact Hv
  iintro Hv
  iapply (wp_load 𝒱₀ (c : Thread nD τ) none Set.univ (m := aM) (S := Finset.univ) (Finset.subset_univ _)) $$ [HA]
  · iexact HA
  iintro HA
  iapply (wp_store 𝒱₀ (c : Thread nD τ) none Set.univ (m := aM) (S := Finset.univ) (Finset.subset_univ _)) $$ [HA]
  · iexact HA
  iintro HA
  iapply (wp_load 𝒱₀ (c : Thread nD τ) none Set.univ (m := sM) (S := Finset.univ) (Finset.subset_univ _)) $$ [HS]
  · iexact HS
  iintro HS
  iapply (wp_store 𝒱₀ (c : Thread nD τ) none Set.univ (m := sM) (S := Finset.univ) (Finset.subset_univ _)) $$ [HS]
  · iexact HS
  iintro HS
  iapply (wp_load 𝒱₀ (c : Thread nD τ) none Set.univ (m := sM) (S := Finset.univ) (Finset.subset_univ _)) $$ [HS]
  · iexact HS
  iintro HS
  iapply (wp_store 𝒱₀ (c : Thread nD τ) none Set.univ (m := sM) (S := Finset.univ) (Finset.subset_univ _)) $$ [HS]
  · iexact HS
  iintro HS
  rw [write_a, write_s, write_s]
  iapply HW
  iexists _, _
  isplitr
  rotate_left
  · isplitl [Hq]; · iexact Hq
    isplitl [Hk]; · iexact Hk
    isplitl [Hv]; · iexact Hv
    isplitl [HA]; · iexact HA
    iexact HS
  · ipureintro
    refine ⟨fun h' hh => ?_, fun j h' hh => ?_⟩
    · rw [aAt_put]
      split
      · next e => subst e; rfl
      · next e => exact hAS.1 h' (by have : h'.val ≠ h.val := fun e' => e (Fin.ext e'); omega)
    · rw [cAt_put, cAt_put]
      by_cases e : h' = h
      · subst e
        by_cases ej : j = 0
        · subst ej; rw [if_neg (fun e => absurd e.1 (by decide)), if_pos ⟨rfl, rfl⟩, if_pos rfl]; rfl
        · have ej1 : j = 1 := by omega
          subst ej1; rw [if_pos ⟨rfl, rfl⟩, if_neg (by decide)]; rfl
      · rw [if_neg (fun e' => e e'.2), if_neg (fun e' => e e'.2)]
        exact hAS.2 j h' (by have : h'.val ≠ h.val := fun e' => e (Fin.ext e'); omega)

/-- The local attention, whole. -/
theorem wp_heads (x : In F) (c : Dev nD) (Q : PUnit → sProp 𝕄) (k : BodyProg F) (A : Vec F S512x128 .f32) (S : Vec F S2x32x16 .f32) :
    iprop((pt c cc0_stg0_0 x.q ∗ pt c cc0_stg1_0 x.k ∗ pt c cc0_stg2_0 x.v ∗ pt c cc0_scratch0 A ∗ pt c cc0_scratch1 S)
      ∗ ((pt c cc0_stg0_0 x.q ∗ pt c cc0_stg1_0 x.k ∗ pt c cc0_stg2_0 x.v ∗ pt c cc0_scratch0 (acc0 x c) ∗ pt c cc0_scratch1 (st0 x c)) -∗ wpB c k Q))
      ⊢ wpB c (steps16 (headK (wt x c) (hs x c)) k) Q := by
  refine BIBase.Entails.trans ?_ (wp_steps16 c Q (headCore x c) _ k (wp_head x c Q))
  iintro ⟨H, HW⟩
  isplitl [H]
  · unfold headCore
    iexists A, S
    isplitr
    · ipureintro
      exact ⟨fun _ hh => absurd hh (Nat.not_lt_zero _), fun _ _ hh => absurd hh (Nat.not_lt_zero _)⟩
    · iexact H
  · unfold headCore
    iintro ⟨%A', %S', %hAS, H⟩
    have eA : A' = acc0 x c := ext_rows _ _ fun h => hAS.1 h h.isLt
    have eS : S' = st0 x c := ext_cols _ _ fun j h => hAS.2 j h h.isLt
    subst eA; subst eS
    iapply HW; iexact H

/-! ## The output -/

/-- The buffers with the first `n` heads' output written. -/
def outCore (l : FVec F S32x16 .f32) (A : Vec F S512x128 .f32) (c : Dev nD) (n : ℕ) : sProp 𝕄 :=
  iprop(∃ o : Vec F S32x1x16x128 .f32, ⌜∀ h : Fin 16, h.val < n → oAt o h = outPay h l (aAt A h)⌝
    ∗ pt c cc0_scratch0 A ∗ pt c cc0_stg5_0 o)

/-- One head of the output: the accumulator's rows divided by the head's sum are stored. -/
theorem wp_out (l : FVec F S32x16 .f32) (A : Vec F S512x128 .f32) (c : Dev nD) (Q : PUnit → sProp 𝕄) (h : Fin 16) (k : BodyProg F) :
    iprop(outCore l A c h.val ∗ (outCore l A c (h.val + 1) -∗ wpB c k Q)) ⊢ wpB c (outK l h k) Q := by
  unfold outCore outK
  iintro ⟨⟨%o, %ho, HA, Ho⟩, HW⟩
  iapply (wp_load 𝒱₀ (c : Thread nD τ) none Set.univ (m := aM) (S := Finset.univ) (Finset.subset_univ _)) $$ [HA]
  · iexact HA
  iintro HA
  iapply (wp_load 𝒱₀ (c : Thread nD τ) none Set.univ (m := oM) (S := Finset.univ) (Finset.subset_univ _)) $$ [Ho]
  · iexact Ho
  iintro Ho
  iapply (wp_store 𝒱₀ (c : Thread nD τ) none Set.univ (m := oM) (S := Finset.univ) (Finset.subset_univ _)) $$ [Ho]
  · iexact Ho
  iintro Ho
  rw [write_o]
  iapply HW
  iexists _
  isplitr
  rotate_left
  · isplitl [HA]; · iexact HA
    iexact Ho
  · ipureintro
    intro h' hh
    rw [oAt_put]
    split
    · next e => subst e; rfl
    · next e => exact ho h' (by have : h'.val ≠ h.val := fun e' => e (Fin.ext e'); omega)

/-- The output loop, whole. -/
theorem wp_outs (l : FVec F S32x16 .f32) (A : Vec F S512x128 .f32) (c : Dev nD) (Q : PUnit → sProp 𝕄) (k : BodyProg F) (o : Vec F S32x1x16x128 .f32) :
    iprop((pt c cc0_scratch0 A ∗ pt c cc0_stg5_0 o)
      ∗ ((pt c cc0_scratch0 A ∗ pt c cc0_stg5_0 (ofHeads fun h => outPay h l (aAt A h))) -∗ wpB c k Q))
      ⊢ wpB c (steps16 (outK l) k) Q := by
  refine BIBase.Entails.trans ?_ (wp_steps16 c Q (outCore l A c) _ k (wp_out l A c Q))
  iintro ⟨H, HW⟩
  isplitl [H]
  · unfold outCore
    iexists o
    isplitr
    · ipureintro; exact fun _ hh => absurd hh (Nat.not_lt_zero _)
    · iexact H
  · unfold outCore
    iintro ⟨%o', %ho, H⟩
    have e : o' = ofHeads fun h => outPay h l (aAt A h) := ext_heads _ _ fun h => ho h h.isLt
    subst e
    iapply HW; iexact H

end Cert.KernelIdeal.Paged
-- ==== Proof.KernelIdeal.Talk.lean ====
module

public import proofs.«01_k».proof.Proof.KernelIdeal.Steps

/-!
# The exchange

The barrier, one stage's transfers and one stage's combining, the stage a variable.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## The landing slots -/

/-- The accumulator's slot of a stage is the block of the scratch at that stage. -/
theorem raS_set (s : Fin 3) : (raS s).view.set = (Rect.unit (s := S3x512x128) ![s.val, 0, 0] S1x512x128.size (inb_raS s)).set :=
  (View.set_reshape _ _).trans (View.set_slice_whole cc0_scratch2 _)
/-- The statistics' slot of a stage is the block of the scratch at that stage. -/
theorem rsS_set (s : Fin 3) : (rsS s).view.set = (Rect.unit (s := S3x2x32x16) ![s.val, 0, 0, 0] S1x2x32x16.size (inb_rsS s)).set :=
  (View.set_reshape _ _).trans (View.set_slice_whole cc0_scratch3 _)

/-- A head's rows of a slot lie in the slot. -/
theorem raS_sub (s : Fin 3) (h : Fin 16) : raM.view.setOn (rRA s h).toLoadRect.set ⊆ (raS s).view.set := by
  rw [show (raS s).view.set = (raM.view.slice (Rect.unit (s := S3x512x128) ![s.val, 0, 0] S1x512x128.size (inb_raS s))).set from View.set_reshape _ _]
  refine Memref.setOn_subset_hull raM _ _ (fun _ => rfl) fun a => ?_
  match a with
  | 0 => exact ⟨Nat.le_refl _, (by show s.val + 1 * (1 - 1) + 1 ≤ s.val + 1; omega)⟩
  | 1 => exact ⟨Nat.zero_le _, (by show 32 * h.val + 1 * (32 - 1) + 1 ≤ 0 + 512; omega)⟩
  | 2 => exact ⟨Nat.zero_le _, (by show 0 + 1 * (128 - 1) + 1 ≤ 0 + 128; omega)⟩
/-- One statistic of a slot lies in the slot. -/
theorem rsS_sub (s : Fin 3) (j : Fin 2) : rsM.view.setOn (rRS s j).toLoadRect.set ⊆ (rsS s).view.set := by
  rw [show (rsS s).view.set = (rsM.view.slice (Rect.unit (s := S3x2x32x16) ![s.val, 0, 0, 0] S1x2x32x16.size (inb_rsS s))).set from View.set_reshape _ _]
  refine Memref.setOn_subset_hull rsM _ _ (fun _ => rfl) fun a => ?_
  match a with
  | 0 => exact ⟨Nat.le_refl _, (by show s.val + 1 * (1 - 1) + 1 ≤ s.val + 1; omega)⟩
  | 1 => exact ⟨Nat.zero_le _, (by show j.val + 1 * (1 - 1) + 1 ≤ 0 + 2; omega)⟩
  | 2 => exact ⟨Nat.zero_le _, (by show 0 + 1 * (32 - 1) + 1 ≤ 0 + 32; omega)⟩
  | 3 => exact ⟨Nat.zero_le _, (by show 0 + 1 * (16 - 1) + 1 ≤ 0 + 16; omega)⟩

/-- Reading a slot of the scratch in which an accumulator landed gives the accumulator. -/
theorem read_landA (s : Fin 3) (x : Vec F S512x128 .f32) : (raS s).view.read (Elt F) (landA x) = x := by
  funext y
  show landA x ((Rect.unit (s := S3x512x128) ![s.val, 0, 0] S1x512x128.size (inb_raS s)).emb (Shape.reshapeEquiv squeezes_S1x512x128_S512x128.numel_eq y)) = x y
  rw [show Shape.reshapeEquiv squeezes_S1x512x128_S512x128.numel_eq y = Fin.cons ⟨0, Nat.one_pos⟩ y from
    Shape.reshapeEquiv_cons_one (d := ![512, 128]) _ y]
  unfold landA
  refine congrArg x (funext fun a => Fin.ext ?_)
  match a with
  | 0 => show 0 + 1 * (y 0).val = (y 0).val; omega
  | 1 => show 0 + 1 * (y 1).val = (y 1).val; omega
/-- Reading a slot of the scratch in which the statistics landed gives them. -/
theorem read_landS (s : Fin 3) (x : Vec F S2x32x16 .f32) : (rsS s).view.read (Elt F) (landS x) = x := by
  funext y
  show landS x ((Rect.unit (s := S3x2x32x16) ![s.val, 0, 0, 0] S1x2x32x16.size (inb_rsS s)).emb (Shape.reshapeEquiv squeezes_S1x2x32x16_S2x32x16.numel_eq y)) = x y
  rw [show Shape.reshapeEquiv squeezes_S1x2x32x16_S2x32x16.numel_eq y = Fin.cons ⟨0, Nat.one_pos⟩ y from
    Shape.reshapeEquiv_cons_one (d := ![2, 32, 16]) _ y]
  unfold landS
  refine congrArg x (funext fun a => Fin.ext ?_)
  match a with
  | 0 => show 0 + 1 * (y 0).val = (y 0).val; omega
  | 1 => show 0 + 1 * (y 1).val = (y 1).val; omega
  | 2 => show 0 + 1 * (y 2).val = (y 2).val; omega

/-- An accumulator landed in a slot: the slot's elements are its. -/
theorem landed_a (s : Fin 3) (c : Dev nD) (f : Vec F S3x512x128 .f32) (x : Vec F S512x128 .f32) :
    ((raS s).view.loc (c : Thread nD τ) ↦[(raS s).view.set]{fullShare} ((raS s).view.write (Elt F) f (aM.view.read (Elt F) x) Finset.univ) : sProp 𝕄)
      = raP s c (landA x) := by
  refine pointsTo_congr fun i hi => ?_
  obtain ⟨y, -, rfl⟩ := Finset.mem_map.mp hi
  exact (View.write_emb_of_mem (v := (raS s).view) f (aM.view.read (Elt F) x) (Finset.mem_univ y)).trans (congrFun (read_landA s x) y).symm
/-- What a copy of the statistics leaves in a slot, as the slot's points-to. -/
theorem landed_s (s : Fin 3) (c : Dev nD) (f : Vec F S3x2x32x16 .f32) (x : Vec F S2x32x16 .f32) :
    ((rsS s).view.loc (c : Thread nD τ) ↦[(rsS s).view.set]{fullShare} ((rsS s).view.write (Elt F) f (sM.view.read (Elt F) x) Finset.univ) : sProp 𝕄)
      = rsP s c (landS x) := by
  refine pointsTo_congr fun i hi => ?_
  obtain ⟨y, -, rfl⟩ := Finset.mem_map.mp hi
  exact (View.write_emb_of_mem (v := (rsS s).view) f (sM.view.read (Elt F) x) (Finset.mem_univ y)).trans (congrFun (read_landS s x) y).symm

/-! ## Combining -/

/-- A head's rows, loaded from the slot in which an accumulator landed. -/
theorem raAt_land (x : Vec F S512x128 .f32) (s : Fin 3) (h : Fin 16) :
    raM.view.readAt (Elt F) (rRA s h).toLoadRect (landA x) = raAt (landA x) s h := rfl

/-- The buffers of a combining step with the first `n` heads' rows combined. -/
def mixCore (s : Fin 3) (al be : FVec F S32x16 .f32) (A A' : Vec F S512x128 .f32) (c : Dev nD) (n : ℕ) : sProp 𝕄 :=
  iprop(∃ B : Vec F S512x128 .f32,
    ⌜∀ h : Fin 16, aAt B h = if h.val < n then mixPay h al be (aAt A h) (raAt (landA A') s h) else aAt A h⌝
    ∗ pt c cc0_scratch0 B ∗ raP s c (landA A'))

/-- One head of a stage's update: the accumulator's rows become the mix of this device's and the peer's. -/
theorem wp_mix (s : Fin 3) (al be : FVec F S32x16 .f32) (A A' : Vec F S512x128 .f32) (c : Dev nD) (Q : PUnit → sProp 𝕄) (h : Fin 16) (k : BodyProg F) :
    iprop(mixCore s al be A A' c h.val ∗ (mixCore s al be A A' c (h.val + 1) -∗ wpB c k Q)) ⊢ wpB c (mixK s al be h k) Q := by
  unfold mixCore mixK raP
  iintro ⟨⟨%B, %hB, HA, Hr⟩, HW⟩
  iapply (wp_load 𝒱₀ (c : Thread nD τ) none Set.univ (m := aM) (S := Finset.univ) (Finset.subset_univ _)) $$ [HA]
  · iexact HA
  iintro HA
  iapply (wp_load 𝒱₀ (c : Thread nD τ) none Set.univ (m := raM) (S := (raS s).view.set) (raS_sub s h)) $$ [Hr]
  · iexact Hr
  iintro Hr
  iapply (wp_load 𝒱₀ (c : Thread nD τ) none Set.univ (m := aM) (S := Finset.univ) (Finset.subset_univ _)) $$ [HA]
  · iexact HA
  iintro HA
  iapply (wp_store 𝒱₀ (c : Thread nD τ) none Set.univ (m := aM) (S := Finset.univ) (Finset.subset_univ _)) $$ [HA]
  · iexact HA
  iintro HA
  rw [write_a]
  iapply HW
  iexists _
  isplitr
  rotate_left
  · isplitl [HA]; · iexact HA
    iexact Hr
  · ipureintro
    intro h'
    rw [aAt_put]
    split
    · next e =>
      subst e
      rw [if_pos (Nat.lt_succ_self _), ← (hB h').trans (if_neg (Nat.lt_irrefl _))]
      rfl
    · next e =>
      have hne : h'.val ≠ h.val := fun e' => e (Fin.ext e')
      rw [hB h']
      by_cases hlt : h'.val < h.val
      · rw [if_pos hlt, if_pos (Nat.lt_succ_of_lt hlt)]
      · rw [if_neg hlt, if_neg (by omega)]

/-- Statistics with both rows rewritten. -/
theorem put_pair (S : Vec F S2x32x16 .f32) (w0 w1 : Vec F S1x32x16 .f32) :
    VecWindow.put (s := S2x32x16) (VecWindow.put (s := S2x32x16) S ![(0 : Fin 2).val, 0, 0] S1x32x16.size w0) ![(1 : Fin 2).val, 0, 0] S1x32x16.size w1
      = ofPair fun j => if j = 0 then w0 else w1 := by
  refine ext_pair _ _ fun j => ?_
  rw [sAt_put, sAt_put]
  match j with
  | 0 => rfl
  | 1 => rfl

/-- A stage's combining, whole: the statistics and the accumulator become the mixed ones. -/
theorem wp_combine (s : Fin 3) (c : Dev nD) (Q : PUnit → sProp 𝕄) (k : BodyProg F) (st st' : Vec F S2x32x16 .f32) (a a' : Vec F S512x128 .f32) :
    iprop((pt c cc0_scratch0 a ∗ pt c cc0_scratch1 st ∗ raP s c (landA a') ∗ rsP s c (landS st'))
      ∗ ((pt c cc0_scratch0 (mixAcc s st st' a a') ∗ pt c cc0_scratch1 (mixSt s st st') ∗ raP s c (landA a') ∗ rsP s c (landS st')) -∗ wpB c k Q))
      ⊢ wpB c (combineK s k) Q := by
  unfold combineK
  iintro ⟨⟨HA, HS, Hra, Hrs⟩, HW⟩
  unfold rsP
  iapply (wp_load 𝒱₀ (c : Thread nD τ) none Set.univ (m := sM) (S := Finset.univ) (Finset.subset_univ _)) $$ [HS]
  · iexact HS
  iintro HS
  iapply (wp_load 𝒱₀ (c : Thread nD τ) none Set.univ (m := sM) (S := Finset.univ) (Finset.subset_univ _)) $$ [HS]
  · iexact HS
  iintro HS
  iapply (wp_load 𝒱₀ (c : Thread nD τ) none Set.univ (m := rsM) (S := (rsS s).view.set) (rsS_sub s 0)) $$ [Hrs]
  · iexact Hrs
  iintro Hrs
  iapply (wp_load 𝒱₀ (c : Thread nD τ) none Set.univ (m := rsM) (S := (rsS s).view.set) (rsS_sub s 1)) $$ [Hrs]
  · iexact Hrs
  iintro Hrs
  iapply (wp_load 𝒱₀ (c : Thread nD τ) none Set.univ (m := sM) (S := Finset.univ) (Finset.subset_univ _)) $$ [HS]
  · iexact HS
  iintro HS
  iapply (wp_store 𝒱₀ (c : Thread nD τ) none Set.univ (m := sM) (S := Finset.univ) (Finset.subset_univ _)) $$ [HS]
  · iexact HS
  iintro HS
  iapply (wp_load 𝒱₀ (c : Thread nD τ) none Set.univ (m := sM) (S := Finset.univ) (Finset.subset_univ _)) $$ [HS]
  · iexact HS
  iintro HS
  iapply (wp_store 𝒱₀ (c : Thread nD τ) none Set.univ (m := sM) (S := Finset.univ) (Finset.subset_univ _)) $$ [HS]
  · iexact HS
  iintro HS
  rw [write_sr, write_sr]
  iapply (wp_steps16 c Q (mixCore s (alOf s st st') (beOf s st st') a a' c) _ k (wp_mix s (alOf s st st') (beOf s st st') a a' c Q))
  isplitl [HA Hra]
  · unfold mixCore
    iexists a
    isplitr
    · ipureintro; exact fun h => (if_neg (Nat.not_lt_zero _)).symm
    · isplitl [HA]; · iexact HA
      iexact Hra
  · unfold mixCore
    iintro ⟨%B, %hB, HA, Hra⟩
    have eA : B = mixAcc s st st' a a' := ext_rows _ _ fun h => (hB h).trans (if_pos h.isLt)
    subst eA
    iapply HW
    isplitl [HA]; · iexact HA
    isplitl [HS]
    · rw [put_pair]
      iexact HS
    isplitl [Hra]; · iexact Hra
    iexact Hrs

/-! ## The cells' invariants -/

/-- Different devices have different barrier cells. -/
theorem barC_inj : Function.Injective (barC : Dev nD → GSem nD τ sig) := fun a b h => congrArg (fun g => g.1.1) h
/-- Different transfer semaphores, or different devices, have different cells. -/
theorem xC_inj : Function.Injective (fun p : Fin 12 × Dev nD => xC p.1 p.2) := fun a b h => by
  have h1 : a.2 = b.2 := congrArg (fun g : GSem nD τ sig => g.1.1) h
  have h2 : some a.1 = some b.1 := by
    rw [← decJ_semN a.1, ← decJ_semN b.1]; exact congrArg (fun g : GSem nD τ sig => decJ g.2) h
  exact Prod.ext (Option.some.inj h2) h1
def barEmb : Dev nD ↪ GSem nD τ sig := ⟨barC, barC_inj⟩
def xEmb : Fin 12 × Dev nD ↪ GSem nD τ sig := ⟨fun p => xC p.1 p.2, xC_inj⟩
/-- Every device's barrier cell. -/
def barCells : Finset (GSem nD τ sig) := Finset.univ.map barEmb
/-- Every device's transfer cells. -/
def xCells : Finset (GSem nD τ sig) := Finset.univ.map xEmb
/-- A barrier cell is one of the launch's cells. -/
theorem bar_mem (c : Dev nD) : barC c ∈ (barCells ∪ xCells : Finset (GSem nD τ sig)) :=
  Finset.mem_union_left _ (Finset.mem_map_of_mem barEmb (Finset.mem_univ c))
/-- A transfer cell is one of the launch's cells. -/
theorem x_mem (j : Fin 12) (c : Dev nD) : xC j c ∈ (barCells ∪ xCells : Finset (GSem nD τ sig)) :=
  Finset.mem_union_right _ (Finset.mem_map_of_mem xEmb (Finset.mem_univ (j, c)))

variable (X : Dev nD → In F)

/-- What every device knows: the invariant of every cell, and that every barrier cell is open. -/
def records (K : GSem nD τ sig → ℕ) : sProp 𝕄 :=
  iprop((bigSep (barCells ∪ xCells) fun g => cellInv ER (sched X) (K g) g) ∗ bigSep barCells fun g => reached ER g 0)

instance records_persistent (K : GSem nD τ sig → ℕ) : BI.Persistent (records X K) := by unfold records; infer_instance

/-- The invariant of one cell, out of those of all. -/
theorem inv_at (K : GSem nD τ sig → ℕ) {g : GSem nD τ sig} (hg : g ∈ (barCells ∪ xCells : Finset (GSem nD τ sig))) :
    (bigSep (barCells ∪ xCells) fun g => (cellInv ER (sched X) (K g) g : sProp 𝕄)) ⊢ cellInv ER (sched X) (K g) g :=
  bigSep_elim hg
/-- The barrier of one device has reached round zero, out of all that have. -/
theorem reached_at (c : Dev nD) : (bigSep barCells fun g => (reached ER g 0 : sProp 𝕄)) ⊢ reached ER (barC c) 0 :=
  bigSep_elim (Finset.mem_map_of_mem barEmb (Finset.mem_univ c))
/-- The launch's records hold the invariant of a device's barrier. -/
theorem rec_bar (K : GSem nD τ sig → ℕ) (c : Dev nD) : (records X K : sProp 𝕄) ⊢ cellInv ER (sched X) (K (barC c)) (barC c) := by
  unfold records; iintro ⟨#HI, -⟩; iapply (inv_at X K (bar_mem c)); iexact HI
/-- The launch's records hold the invariant of a device's transfer cell. -/
theorem rec_x (K : GSem nD τ sig → ℕ) (j : Fin 12) (c : Dev nD) : (records X K : sProp 𝕄) ⊢ cellInv ER (sched X) (K (xC j c)) (xC j c) := by
  unfold records; iintro ⟨#HI, -⟩; iapply (inv_at X K (x_mem j c)); iexact HI
/-- The launch's records say that a device's barrier has reached round zero. -/
theorem rec_reached (K : GSem nD τ sig → ℕ) (c : Dev nD) : (records X K : sProp 𝕄) ⊢ reached ER (barC c) 0 := by
  unfold records; iintro ⟨-, #HR⟩; iapply (reached_at c); iexact HR

/-! ## A stage's transfers -/

/-- A device's hold on its transfer cell `j`, just opened. -/
def chan (j : Fin 12) (c : Dev nD) : sProp 𝕄 := iprop(atPos ER (xC j c) 0 ∅ 0 ∗ reached ER (xC j c) 0)
/-- And when its round is over. -/
def chanDone (j : Fin 12) (c : Dev nD) : sProp 𝕄 := atPos ER (xC j c) 1 ∅ 0

/-- The duties a device pays at stage `s`. -/
def stageToks (s : Fin 3) (c : Dev nD) : sProp 𝕄 :=
  iprop(dutyTok ER (xC (semI s 0) c) 0 0 ∗ dutyTok ER (xC (semI s 1) (peer s c)) 0 0
    ∗ dutyTok ER (xC (semI s 2) c) 0 0 ∗ dutyTok ER (xC (semI s 3) (peer s c)) 0 0)
/-- The credit it waits with for what arrives. -/
def stageCreds (s : Fin 3) (c : Dev nD) : sProp 𝕄 :=
  iprop(cred (tallyAt (xC (semI s 1) c) () (amt 1)) ∗ cred (tallyAt (xC (semI s 3) c) () (amt 3)))

/-- What a device owes before a stage is what it owes after it and the two arrivals at the stage's peer. -/
theorem oweX_eq (s : Fin 3) (c : Dev nD) : oweX (3 - s.val) c
    = (oweX (2 - s.val) c + tallyAt (xC (semI s 3) (peer s c)) () (amt 3)) + tallyAt (xC (semI s 1) (peer s c)) () (amt 1) := by
  match s with
  | 0 => rfl
  | 1 => rfl
  | 2 => rfl
/-- After a stage a device owes only cells of a higher level than the stage's arrivals. -/
theorem above_stage (s : Fin 3) (c : Dev nD) : Above (s.val + 2) (oweX (2 - s.val) c) := by
  have h := above_oweX (2 - s.val) c (by omega)
  rwa [show 4 - (2 - s.val) = s.val + 2 by omega] at h

/-- The credit of a copy into the accumulator's slot is the accumulator's. -/
theorem crA (s : Fin 3) : (raS s).view.dmaCredit = NA := rfl
/-- The credit of a copy into the statistics' slot is the statistics'. -/
theorem crS (s : Fin 3) : (rsS s).view.dmaCredit = NS := rfl

/-- The printed stage is the stage that talks to the device's peer. -/
theorem talkK_eq (c : Dev nD) (s : Fin 3) (k : BodyProg F) : talkK c s k = talkAt (peer s c) (peer s c) s k := by
  unfold talkK; rw [peerA_eq, peerS_eq]

/-- The first semaphore of a stage counts the accumulator's bytes. -/
theorem amt_0 : amt 0 = NA := rfl
/-- So does the second. -/
theorem amt_1 : amt 1 = NA := rfl
/-- The third counts the statistics' bytes. -/
theorem amt_2 : amt 2 = NS := rfl
/-- So does the fourth. -/
theorem amt_3 : amt 3 = NS := rfl

/-- A wait on one of a stage's four cells: the cell's payload comes. -/
theorem wp_xwait (K : GSem nD τ sig → ℕ) (s : Fin 3) (k : Fin 4) (c : Dev nD) (Q : PUnit → sProp 𝕄) (kk : PUnit → BodyProg F) (W : Waits sig Unit)
    (O : CellTallies nD τ sig Unit) (hO : Above (s.val + 2) O) (w : TpuEff nD τ sig (Elt F) Λ₀ .tc PUnit)
    (hw : ∀ K' : PUnit → sProp 𝕄, wpE (defs₀ (F := F)) 𝒱₀ (c : Thread nD τ) none Set.univ w K'
      = waitSpec (c : Thread nD τ) Set.univ (.dma (semN (semI s k))) (amt k) K') :
    iprop(records X K ∗ levAts L lv ∗ cred (tallyAt (xC (semI s k) c) () (amt k)) ∗ owes (c : Thread nD τ) O W ∗ atPos ER (xC (semI s k) c) 0 ∅ 0)
      ⊢ iprop((((∃ W', owes (c : Thread nD τ) O W') ∗ chanDone (semI s k) c ∗ xPay X s k c) -∗ wpB c (kk ⟨⟩) Q) -∗ wpB c (.op w kk) Q) := by
  iintro ⟨#HI, #Hlev, Hc, HO, Ha⟩ HW
  iapply (Rounds.wp_wait_rest_token 𝒱₀ ER (sched X) (c : Thread nD τ) none (κ := K (xC (semI s k) c)) hw
      (Set.mem_univ _) () (O := O) (R := 0) (m := 0) (T := ∅) ((Nat.zero_add _).trans (expect_x X c s k).symm)) $$ [Hc HO Ha]
  · isplitr; · iapply (rec_x X K); iexact HI
    isplitl [Hc]; · iexact Hc
    isplitl [HO]; · iexact HO
    isplitr
    · iapply (mayWait c (.dma (semN (semI s k))) (s.val + 2) (by rw [lv_x]; split; exacts [Nat.le_refl _, Nat.zero_le _]) _ hO); iexact Hlev
    iexact Ha
  iintro ⟨HO, Ha, -, Hpay⟩
  ihave HP := (Entails.of_eq (rest_x X c s k)) $$ Hpay
  iapply HW
  isplitl [HO]; · iexists _; iexact HO
  isplitl [Ha]; · unfold chanDone; iexact Ha
  iexact HP

/-- The accumulator sent. -/
theorem wp_sendA (K : GSem nD τ sig → ℕ) (s : Fin 3) (c : Dev nD) (Q : PUnit → sProp 𝕄) (kk : PUnit → BodyProg F) (W : Waits sig Unit)
    (O : CellTallies nD τ sig Unit) (fA : Vec F S3x512x128 .f32) (h1 h2 h3) :
    iprop(records X K ∗ pt c cc0_scratch0 (accAt X s.val c) ∗ raP s (peer s c) fA
        ∗ owes (c : Thread nD τ) (O + tallyAt (xC (semI s 1) (peer s c)) () (amt 1)) W
        ∗ dutyTok ER (xC (semI s 0) c) 0 0 ∗ reached ER (xC (semI s 0) c) 0
        ∗ dutyTok ER (xC (semI s 1) (peer s c)) 0 0 ∗ reached ER (xC (semI s 1) (peer s c)) 0)
      ⊢ iprop(((cred (tallyAt (xC (semI s 0) c) () (amt 0)) ∗ owes (c : Thread nD τ) O W) -∗ wpB c (kk ⟨⟩) Q)
        -∗ wpB c (.op (.enqueueDma aM (.remote (Dev.tc (peer s c)) (raS s) (.dma (semN (semI s 0)))) (.dma (semN (semI s 1))) h1 h2 h3) kk) Q) := by
  iintro ⟨#HI, HA, Hra, HO, Ht0, #Hr0, Ht1, #Hp1⟩ HW
  have hpp := peer_peer s c
  iapply (Rounds.wp_send_pointsTo 𝒱₀ ER (sched X) (c : Thread nD τ) none (c' := (peer s c : Thread nD τ)) (src := aM) (dst := raS s)
      (sS := .dma (semN (semI s 0))) (sem := .dma (semN (semI s 1))) (q := fullShare) (fs := accAt X s.val c)
      (κ₁ := K (xC (semI s 0) c)) (κ₂ := K (xC (semI s 1) (peer s c))) (r₁ := 0) (r₂ := 0) (d₁ := 0) (d₂ := 0) (fd := fA)
      (by rw [duties_x]; exact Finset.mem_singleton_self _) (by rw [duties_x]; exact Finset.mem_singleton_self _)
      () () (amt 1) ((crA s).trans amt_1.symm) (amount_x X c s 0 0) (amount_x X (peer s c) s 1 0) O rfl (W := W)
      (by rw [payload_x]; exact (Entails.of_eq (by rw [View.set_whole]; rfl)))
      (by rw [payload_x]; dsimp only [xPay]; rw [hpp]; exact Entails.of_eq (landed_a s (peer s c) fA _))) $$ [HA Hra HO Ht0 Ht1]
  · isplitr; · iapply (rec_x X K); iexact HI
    isplitr; · iapply (rec_x X K); iexact HI
    isplitl [HA]; · rw [View.set_whole]; iexact HA
    isplitl [Hra]; · unfold raP; iexact Hra
    isplitl [HO]; · iexact HO
    isplitl [Ht0]; · iexact Ht0
    isplitr; · iexact Hr0
    isplitl [Ht1]; · iexact Ht1
    iexact Hp1
  iexact HW

/-- The statistics sent. -/
theorem wp_sendS (K : GSem nD τ sig → ℕ) (s : Fin 3) (c : Dev nD) (Q : PUnit → sProp 𝕄) (kk : PUnit → BodyProg F) (W : Waits sig Unit)
    (O : CellTallies nD τ sig Unit) (fS : Vec F S3x2x32x16 .f32) (h1 h2 h3) :
    iprop(records X K ∗ pt c cc0_scratch1 (stAt X s.val c) ∗ rsP s (peer s c) fS
        ∗ owes (c : Thread nD τ) (O + tallyAt (xC (semI s 3) (peer s c)) () (amt 3)) W
        ∗ dutyTok ER (xC (semI s 2) c) 0 0 ∗ reached ER (xC (semI s 2) c) 0
        ∗ dutyTok ER (xC (semI s 3) (peer s c)) 0 0 ∗ reached ER (xC (semI s 3) (peer s c)) 0)
      ⊢ iprop(((cred (tallyAt (xC (semI s 2) c) () (amt 2)) ∗ owes (c : Thread nD τ) O W) -∗ wpB c (kk ⟨⟩) Q)
        -∗ wpB c (.op (.enqueueDma sM (.remote (Dev.tc (peer s c)) (rsS s) (.dma (semN (semI s 2)))) (.dma (semN (semI s 3))) h1 h2 h3) kk) Q) := by
  iintro ⟨#HI, HS, Hrs, HO, Ht2, #Hr2, Ht3, #Hp3⟩ HW
  have hpp := peer_peer s c
  iapply (Rounds.wp_send_pointsTo 𝒱₀ ER (sched X) (c : Thread nD τ) none (c' := (peer s c : Thread nD τ)) (src := sM) (dst := rsS s)
      (sS := .dma (semN (semI s 2))) (sem := .dma (semN (semI s 3))) (q := fullShare) (fs := stAt X s.val c)
      (κ₁ := K (xC (semI s 2) c)) (κ₂ := K (xC (semI s 3) (peer s c))) (r₁ := 0) (r₂ := 0) (d₁ := 0) (d₂ := 0) (fd := fS)
      (by rw [duties_x]; exact Finset.mem_singleton_self _) (by rw [duties_x]; exact Finset.mem_singleton_self _)
      () () (amt 3) ((crS s).trans amt_3.symm) (amount_x X c s 2 0) (amount_x X (peer s c) s 3 0) O rfl (W := W)
      (by rw [payload_x]; exact (Entails.of_eq (by rw [View.set_whole]; rfl)))
      (by rw [payload_x]; dsimp only [xPay]; rw [hpp]; exact Entails.of_eq (landed_s s (peer s c) fS _))) $$ [HS Hrs HO Ht2 Ht3]
  · isplitr; · iapply (rec_x X K); iexact HI
    isplitr; · iapply (rec_x X K); iexact HI
    isplitl [HS]; · rw [View.set_whole]; iexact HS
    isplitl [Hrs]; · unfold rsP; iexact Hrs
    isplitl [HO]; · iexact HO
    isplitl [Ht2]; · iexact Ht2
    isplitr; · iexact Hr2
    isplitl [Ht3]; · iexact Ht3
    iexact Hp3
  iexact HW

/-- A stage's transfers, whole: our accumulator and statistics come back, and the peer's are in our slots. -/
theorem wp_talk (K : GSem nD τ sig → ℕ) (s : Fin 3) (c : Dev nD) (Q : PUnit → sProp 𝕄) (k : BodyProg F) (W : Waits sig Unit) :
    iprop((records X K ∗ levAts L lv ∗ (chan (semI s 0) c ∗ chan (semI s 1) c ∗ chan (semI s 2) c ∗ chan (semI s 3) c) ∗ stageToks s c ∗ stageCreds s c
        ∗ barPay s c ∗ pt c cc0_scratch0 (accAt X s.val c) ∗ pt c cc0_scratch1 (stAt X s.val c) ∗ owes (c : Thread nD τ) (oweX (3 - s.val) c) W)
      ∗ (((chanDone (semI s 0) c ∗ chanDone (semI s 1) c ∗ chanDone (semI s 2) c ∗ chanDone (semI s 3) c)
          ∗ pt c cc0_scratch0 (accAt X s.val c) ∗ pt c cc0_scratch1 (stAt X s.val c)
          ∗ raP s c (landA (accAt X s.val (peer s c))) ∗ rsP s c (landS (stAt X s.val (peer s c)))
          ∗ ∃ W', owes (c : Thread nD τ) (oweX (2 - s.val) c) W') -∗ wpB c k Q))
      ⊢ wpB c (talkK c s k) Q := by
  unfold chan stageToks stageCreds barPay
  iintro ⟨⟨#HI, #Hlev, ⟨⟨Ha0, #Hr0⟩, ⟨Ha1, #Hr1⟩, ⟨Ha2, #Hr2⟩, ⟨Ha3, #Hr3⟩⟩, ⟨Ht0, Ht1, Ht2, Ht3⟩, ⟨Hc1, Hc3⟩, ⟨⟨%fA, Hra⟩, ⟨%fS, Hrs⟩, #Hp1, #Hp3⟩, HA, HS, HO⟩, HW⟩
  rw [talkK_eq]
  unfold talkAt
  have hO := above_stage s c
  rw [oweX_eq]
  iapply (wp_sendA X K s c Q _ W (oweX (2 - s.val) c + tallyAt (xC (semI s 3) (peer s c)) () (amt 3)) fA) $$ [HA Hra HO Ht0 Ht1]
  · isplitr; · iexact HI
    isplitl [HA]; · iexact HA
    isplitl [Hra]; · iexact Hra
    isplitl [HO]; · iexact HO
    isplitl [Ht0]; · iexact Ht0
    isplitr; · iexact Hr0
    isplitl [Ht1]; · iexact Ht1
    iexact Hp1
  iintro ⟨Hc0, HO⟩
  iapply (wp_sendS X K s c Q _ W (oweX (2 - s.val) c) fS) $$ [HS Hrs HO Ht2 Ht3]
  · isplitr; · iexact HI
    isplitl [HS]; · iexact HS
    isplitl [Hrs]; · iexact Hrs
    isplitl [HO]; · iexact HO
    isplitl [Ht2]; · iexact Ht2
    isplitr; · iexact Hr2
    isplitl [Ht3]; · iexact Ht3
    iexact Hp3
  iintro ⟨Hc2, HO⟩
  iapply (wp_xwait X K s 0 c Q _ W (oweX (2 - s.val) c) hO _ (fun K' => (wpE_waitDma2_eq (src := raS s) (dst := aM) 𝒱₀ (c : Thread nD τ) none Set.univ K').trans (by rw [amt_0]))) $$ [Hc0 HO Ha0]
  · isplitr; · iexact HI
    isplitr; · iexact Hlev
    isplitl [Hc0]; · iexact Hc0
    isplitl [HO]; · iexact HO
    iexact Ha0
  iintro ⟨⟨%W1, HO⟩, Ha0, HA⟩
  iapply (wp_xwait X K s 1 c Q _ W1 (oweX (2 - s.val) c) hO _ (fun K' => (wpE_waitDma2_eq (src := aM) (dst := raS s) 𝒱₀ (c : Thread nD τ) none Set.univ K').trans (by rw [amt_1, crA]))) $$ [Hc1 HO Ha1]
  · isplitr; · iexact HI
    isplitr; · iexact Hlev
    isplitl [Hc1]; · iexact Hc1
    isplitl [HO]; · iexact HO
    iexact Ha1
  iintro ⟨⟨%W2, HO⟩, Ha1, Hra⟩
  iapply (wp_xwait X K s 2 c Q _ W2 (oweX (2 - s.val) c) hO _ (fun K' => (wpE_waitDma2_eq (src := rsS s) (dst := sM) 𝒱₀ (c : Thread nD τ) none Set.univ K').trans (by rw [amt_2]))) $$ [Hc2 HO Ha2]
  · isplitr; · iexact HI
    isplitr; · iexact Hlev
    isplitl [Hc2]; · iexact Hc2
    isplitl [HO]; · iexact HO
    iexact Ha2
  iintro ⟨⟨%W3, HO⟩, Ha2, HS⟩
  iapply (wp_xwait X K s 3 c Q _ W3 (oweX (2 - s.val) c) hO _ (fun K' => (wpE_waitDma2_eq (src := sM) (dst := rsS s) 𝒱₀ (c : Thread nD τ) none Set.univ K').trans (by rw [amt_3, crS]))) $$ [Hc3 HO Ha3]
  · isplitr; · iexact HI
    isplitr; · iexact Hlev
    isplitl [Hc3]; · iexact Hc3
    isplitl [HO]; · iexact HO
    iexact Ha3
  iintro ⟨⟨%W4, HO⟩, Ha3, Hrs⟩
  dsimp only [xPay]
  iapply HW
  isplitl [Ha0 Ha1 Ha2 Ha3]
  · isplitl [Ha0]; · iexact Ha0
    isplitl [Ha1]; · iexact Ha1
    isplitl [Ha2]; · iexact Ha2
    iexact Ha3
  isplitl [HA]; · iexact HA
  isplitl [HS]; · iexact HS
  isplitl [Hra]; · iexact Hra
  isplitl [Hrs]; · iexact Hrs
  iexists _
  iexact HO

end Cert.KernelIdeal.Paged
-- ==== Proof.KernelIdeal.Body.lean ====
module

public import proofs.«01_k».proof.Proof.KernelIdeal.Talk
public import Idealize.ShloMosaic.Lib.Ring

/-!
# The body, run

One device's body from start to end, the device a variable: it ends with the output `outAt`, every landing slot back, every
counter back at zero and nothing owed.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (X : Dev nD → In F)

/-- A conjunction over the three stages. -/
theorem three (Φ : Fin 3 → sProp 𝕄) : bigSep Finset.univ Φ = iprop(Φ 0 ∗ Φ 1 ∗ Φ 2) := Ring.bigSep_fin3 Φ

/-- One unit to the barrier of the peer of stage `s`, and with it our landing slots of that stage. -/
theorem wp_sig (K : GSem nD τ sig → ℕ) (s : Fin 3) (c : Dev nD) (Q : PUnit → sProp 𝕄) (kk : PUnit → BodyProg F) (W : Waits sig Unit)
    (O : CellTallies nD τ sig Unit) :
    iprop(records X K ∗ owes (c : Thread nD τ) (O + tallyAt (barC (peer s c)) () 1) W ∗ dutyTok ER (barC (peer s c)) 0 s
        ∗ (∃ f, raP s c f) ∗ (∃ f, rsP s c f) ∗ reached ER (xC (semI s 1) c) 0 ∗ reached ER (xC (semI s 3) c) 0)
      ⊢ iprop((owes (c : Thread nD τ) O W -∗ wpB c (kk ⟨⟩) Q) -∗ wpB c (.op (.semSignal (peerB s c, .tc) (sig.barrier 0 rfl) 1) kk) Q) := by
  iintro ⟨#HI, HO, Ht, Hra, Hrs, #Hr1, #Hr3⟩ HW
  iapply (Rounds.wp_signal 𝒱₀ ER (sched X) (c : Thread nD τ) none (dst := (peer s c : Thread nD τ)) (sem := barS) (r := 0) (d := s) (κ := K (barC (peer s c)))
      (by rw [duties_bar]; exact Finset.mem_univ _) (amount_bar X (peer s c) s) () O rfl) $$ [HO Ht Hra Hrs]
  · isplitr; · iapply (rec_bar X K); iexact HI
    isplitl [HO]; · iexact HO
    isplitl [Ht]; · iexact Ht
    isplitl [Hra Hrs]
    · rw [payload_bar]; unfold barPay; rw [peer_peer]
      isplitl [Hra]; · iexact Hra
      isplitl [Hrs]; · iexact Hrs
      isplitr; · iexact Hr1
      iexact Hr3
    iapply (rec_reached X K); iexact HI
  iexact HW

/-- The wait at the barrier: every peer's slots come. -/
theorem wp_barwait (K : GSem nD τ sig → ℕ) (c : Dev nD) (Q : PUnit → sProp 𝕄) (kk : PUnit → BodyProg F) (W : Waits sig Unit) :
    iprop(records X K ∗ levAts L lv ∗ cred (tallyAt (barC c) () 3) ∗ owes (c : Thread nD τ) (oweX 3 c) W ∗ atPos ER (barC c) 0 ∅ 0)
      ⊢ iprop((((∃ W', owes (c : Thread nD τ) (oweX 3 c) W') ∗ atPos ER (barC c) 1 ∅ 0 ∗ barPay 0 c ∗ barPay 1 c ∗ barPay 2 c) -∗ wpB c (kk ⟨⟩) Q)
        -∗ wpB c (.op (.semWait (sig.barrier 0 rfl) 3) kk) Q) := by
  iintro ⟨#HI, #Hlev, Hc, HO, Ha⟩ HW
  iapply (Rounds.wp_wait_rest_token 𝒱₀ ER (sched X) (c : Thread nD τ) none (κ := K (barC c)) (wpE_semWait_eq 𝒱₀ (c : Thread nD τ) none Set.univ)
      (Set.mem_univ _) () (O := oweX 3 c) (R := 0) (m := 0) (T := ∅) ((Nat.zero_add _).trans (expect_bar X c).symm)) $$ [Hc HO Ha]
  · isplitr; · iapply (rec_bar X K); iexact HI
    isplitl [Hc]; · iexact Hc
    isplitl [HO]; · iexact HO
    isplitr
    · iapply (mayWait c (.reg barS) 1 (by rw [lv_bar]) _ (above_oweX 3 c (Nat.le_refl 3))); iexact Hlev
    iexact Ha
  iintro ⟨HO, Ha, -, Hpay⟩
  ihave HP := (Entails.of_eq ((rest_bar X c).trans (three _))) $$ Hpay
  iapply HW
  isplitl [HO]; · iexists _; iexact HO
  isplitl [Ha]; · iexact Ha
  iexact HP

/-! ## What a body starts from and ends with -/

/-- The inputs, as staged. -/
def inputs (c : Dev nD) : sProp 𝕄 :=
  iprop(pt c main_v12 (X c).t ∗ pt c cc0_stg0_0 (X c).q ∗ pt c cc0_stg1_0 (X c).k ∗ pt c cc0_stg2_0 (X c).v ∗ pt c cc0_stg3_0 (X c).bt ∗ pt c cc0_stg4_0 (X c).ln)

/-- A stage's two landing slots, whatever they hold. -/
def slots (s : Fin 3) (c : Dev nD) : sProp 𝕄 := iprop((∃ f, raP s c f) ∗ (∃ f, rsP s c f))

/-- A stage's cells, tokens and credit. -/
def stageGh (s : Fin 3) (c : Dev nD) : sProp 𝕄 :=
  iprop((chan (semI s 0) c ∗ chan (semI s 1) c ∗ chan (semI s 2) c ∗ chan (semI s 3) c) ∗ stageToks s c ∗ stageCreds s c
    ∗ dutyTok ER (barC (peer s c)) 0 s)

/-- A stage's four counters at zero. -/
def stageZero (s : Fin 3) (c : Dev nD) : sProp 𝕄 :=
  iprop(semVal (xC (semI s 0) c) 0 ∗ semVal (xC (semI s 1) c) 0 ∗ semVal (xC (semI s 2) c) 0 ∗ semVal (xC (semI s 3) c) 0)

def stageDone (s : Fin 3) (c : Dev nD) : sProp 𝕄 :=
  iprop(chanDone (semI s 0) c ∗ chanDone (semI s 1) c ∗ chanDone (semI s 2) c ∗ chanDone (semI s 3) c)

def ghosts (K : GSem nD τ sig → ℕ) (c : Dev nD) : sProp 𝕄 :=
  iprop(records X K ∗ atPos ER (barC c) 0 ∅ 0 ∗ cred (tallyAt (barC c) () 3) ∗ bigSep Finset.univ fun s => stageGh s c)

/-- A transfer cell whose round is over gives back its semaphore at zero. -/
theorem close_x (K : GSem nD τ sig → ℕ) (j : Fin 12) (c : Dev nD) :
    iprop(records X K ∗ chanDone j c) ⊢ (|={Set.univ}=> semVal (xC j c) 0 : sProp 𝕄) := by
  refine BIBase.Entails.trans ?_ (Rounds.cell_close ER (sched X) (Set.mem_univ (K (xC j c))) id (duties_later X (xC j c)))
  unfold chanDone
  iintro ⟨#HI, H⟩
  isplitr; · iapply (rec_x X K); iexact HI
  iexact H
/-- A barrier whose round is over gives back its semaphore at zero. -/
theorem close_bar (K : GSem nD τ sig → ℕ) (c : Dev nD) :
    iprop(records X K ∗ atPos ER (barC c) 1 ∅ 0) ⊢ (|={Set.univ}=> semVal (barC c) 0 : sProp 𝕄) := by
  refine BIBase.Entails.trans ?_ (Rounds.cell_close ER (sched X) (Set.mem_univ (K (barC c))) id (duties_later X (barC c)))
  iintro ⟨#HI, H⟩
  isplitr; · iapply (rec_bar X K); iexact HI
  iexact H
/-- A stage that is over gives back its four semaphores at zero. -/
theorem close_stage (K : GSem nD τ sig → ℕ) (s : Fin 3) (c : Dev nD) :
    iprop(records X K ∗ stageDone s c) ⊢ (|={Set.univ}=> stageZero s c : sProp 𝕄) := by
  unfold stageDone stageZero
  iintro ⟨#HI, H0, H1, H2, H3⟩
  imod (close_x X K (semI s 0) c) $$ [H0] with H0
  · isplitr; · iexact HI
    iexact H0
  imod (close_x X K (semI s 1) c) $$ [H1] with H1
  · isplitr; · iexact HI
    iexact H1
  imod (close_x X K (semI s 2) c) $$ [H2] with H2
  · isplitr; · iexact HI
    iexact H2
  imod (close_x X K (semI s 3) c) $$ [H3] with H3
  · isplitr; · iexact HI
    iexact H3
  imodintro
  isplitl [H0]; · iexact H0
  isplitl [H1]; · iexact H1
  isplitl [H2]; · iexact H2
  iexact H3

/-- One stage, transfers and combining. -/
theorem wp_stage (K : GSem nD τ sig → ℕ) (s : Fin 3) (c : Dev nD) (Q : PUnit → sProp 𝕄) (k : BodyProg F) (W : Waits sig Unit) :
    iprop((records X K ∗ levAts L lv ∗ (chan (semI s 0) c ∗ chan (semI s 1) c ∗ chan (semI s 2) c ∗ chan (semI s 3) c) ∗ stageToks s c ∗ stageCreds s c
        ∗ barPay s c ∗ pt c cc0_scratch0 (accAt X s.val c) ∗ pt c cc0_scratch1 (stAt X s.val c) ∗ owes (c : Thread nD τ) (oweX (3 - s.val) c) W)
      ∗ ((stageDone s c ∗ pt c cc0_scratch0 (accAt X (s.val + 1) c) ∗ pt c cc0_scratch1 (stAt X (s.val + 1) c)
          ∗ slots s c ∗ ∃ W', owes (c : Thread nD τ) (oweX (2 - s.val) c) W') -∗ wpB c k Q))
      ⊢ wpB c (talkK c s (combineK s k)) Q := by
  iintro ⟨H, HW⟩
  iapply (wp_talk X K s c Q _ W)
  isplitl [H]; · iexact H
  iintro ⟨Hd, HA, HS, Hra, Hrs, HO⟩
  iapply (wp_combine s c Q k (stAt X s.val c) (stAt X s.val (peer s c)) (accAt X s.val c) (accAt X s.val (peer s c)))
  isplitl [HA HS Hra Hrs]
  · isplitl [HA]; · iexact HA
    isplitl [HS]; · iexact HS
    isplitl [Hra]; · iexact Hra
    iexact Hrs
  rw [← stAt_succ, ← accAt_succ]
  iintro ⟨HA, HS, Hra, Hrs⟩
  iapply HW
  isplitl [Hd]; · unfold stageDone; iexact Hd
  isplitl [HA]; · iexact HA
  isplitl [HS]; · iexact HS
  isplitl [Hra Hrs]
  · unfold slots
    isplitl [Hra]; · iexists _; iexact Hra
    iexists _; iexact Hrs
  iexact HO

/-- One device's body, run. -/
theorem body_run (K : GSem nD τ sig → ℕ) (c : Dev nD) (Q : PUnit → sProp 𝕄) (W : Waits sig Unit)
    (A : Vec F S512x128 .f32) (S : Vec F S2x32x16 .f32) (o : Vec F S32x1x16x128 .f32) :
    iprop((ghosts X K c ∗ levAts L lv ∗ inputs X c ∗ pt c cc0_scratch0 A ∗ pt c cc0_scratch1 S ∗ pt c cc0_stg5_0 o
        ∗ (bigSep Finset.univ fun s => slots s c) ∗ owes (c : Thread nD τ) (O₀ c) W)
      ∗ ((inputs X c ∗ (∃ A', pt c cc0_scratch0 A') ∗ (∃ S', pt c cc0_scratch1 S') ∗ pt c cc0_stg5_0 (outAt X c)
          ∗ (bigSep Finset.univ fun s => slots s c) ∗ semVal (barC c) 0 ∗ (bigSep Finset.univ fun s => stageZero s c)
          ∗ ∃ W', owes (c : Thread nD τ) 0 W') -∗ Q ⟨⟩))
      ⊢ wpB c kbody Q := by
  unfold kbody ghosts inputs
  simp only [wp_deviceId, three]
  unfold stageGh slots
  iintro ⟨⟨⟨#HI, HaB, HcB, ⟨Hx0, Ht0, Hc0, Hb0⟩, ⟨Hx1, Ht1, Hc1, Hb1⟩, ⟨Hx2, Ht2, Hc2, Hb2⟩⟩, #Hlev, ⟨Ht, Hq, Hk, Hv, Hbt, Hln⟩, HA, HS, Ho,
    ⟨⟨Hra0, Hrs0⟩, ⟨Hra1, Hrs1⟩, ⟨Hra2, Hrs2⟩⟩, HO⟩, HW⟩
  iapply (wp_load 𝒱₀ (c : Thread nD τ) none Set.univ (m := tM) (S := Finset.univ) (Finset.subset_univ _)) $$ [Ht]
  · iexact Ht
  iintro Ht
  iapply (wp_load 𝒱₀ (c : Thread nD τ) none Set.univ (m := btM) (S := Finset.univ) (Finset.subset_univ _)) $$ [Hbt]
  · iexact Hbt
  iintro Hbt
  iapply (wp_load 𝒱₀ (c : Thread nD τ) none Set.univ (m := lnM) (S := Finset.univ) (Finset.subset_univ _)) $$ [Hln]
  · iexact Hln
  iintro Hln
  have ebt : btM.view.readAt (Elt F) (Rect.unit (s := S32x256) ![0, 0] S32x256.size inb_S32x256_S32x256_0_0).toLoadRect (X c).bt = (X c).bt :=
    (View.readAt_full btM.view (X c).bt inb_S32x256_S32x256_0_0).trans (View.read_whole _ _)
  have eln : lnM.view.readAt (Elt F) (Rect.unit (s := S32x1) ![0, 0] S32x1.size inb_S32x1_S32x1_0_0).toLoadRect (X c).ln = (X c).ln :=
    (View.readAt_full lnM.view (X c).ln inb_S32x1_S32x1_0_0).trans (View.read_whole _ _)
  rw [ebt, eln]
  iapply (wp_heads (X c) c Q _ A S)
  isplitl [Hq Hk Hv HA HS]
  · isplitl [Hq]; · iexact Hq
    isplitl [Hk]; · iexact Hk
    isplitl [Hv]; · iexact Hv
    isplitl [HA]; · iexact HA
    iexact HS
  iintro ⟨Hq, Hk, Hv, HA, HS⟩
  unfold barrierK O₀ chan
  icases Hx0 with ⟨Hx00, ⟨Hx01, #Hr01⟩, Hx02, ⟨Hx03, #Hr03⟩⟩
  icases Hx1 with ⟨Hx10, ⟨Hx11, #Hr11⟩, Hx12, ⟨Hx13, #Hr13⟩⟩
  icases Hx2 with ⟨Hx20, ⟨Hx21, #Hr21⟩, Hx22, ⟨Hx23, #Hr23⟩⟩
  iapply (wp_sig X K 0 c Q _ W (oweX 3 c + tallyAt (barC (peer 2 c)) () 1 + tallyAt (barC (peer 1 c)) () 1)) $$ [HO Hb0 Hra0 Hrs0]
  · isplitr; · iexact HI
    isplitl [HO]; · iexact HO
    isplitl [Hb0]; · iexact Hb0
    isplitl [Hra0]; · iexact Hra0
    isplitl [Hrs0]; · iexact Hrs0
    isplitr; · iexact Hr01
    iexact Hr03
  iintro HO
  iapply (wp_sig X K 1 c Q _ W (oweX 3 c + tallyAt (barC (peer 2 c)) () 1)) $$ [HO Hb1 Hra1 Hrs1]
  · isplitr; · iexact HI
    isplitl [HO]; · iexact HO
    isplitl [Hb1]; · iexact Hb1
    isplitl [Hra1]; · iexact Hra1
    isplitl [Hrs1]; · iexact Hrs1
    isplitr; · iexact Hr11
    iexact Hr13
  iintro HO
  iapply (wp_sig X K 2 c Q _ W (oweX 3 c)) $$ [HO Hb2 Hra2 Hrs2]
  · isplitr; · iexact HI
    isplitl [HO]; · iexact HO
    isplitl [Hb2]; · iexact Hb2
    isplitl [Hra2]; · iexact Hra2
    isplitl [Hrs2]; · iexact Hrs2
    isplitr; · iexact Hr21
    iexact Hr23
  iintro HO
  iapply (wp_barwait X K c Q _ W) $$ [HcB HO HaB]
  · isplitr; · iexact HI
    isplitr; · iexact Hlev
    isplitl [HcB]; · iexact HcB
    isplitl [HO]; · iexact HO
    iexact HaB
  iintro ⟨⟨%W0, HO⟩, HaB, HP0, HP1, HP2⟩
  iapply (wp_stage X K 0 c Q _ W0)
  isplitl [Hx00 Hx01 Hx02 Hx03 Ht0 Hc0 HP0 HA HS HO]
  · isplitr; · iexact HI
    isplitr; · iexact Hlev
    isplitl [Hx00 Hx01 Hx02 Hx03]
    · unfold chan
      isplitl [Hx00]; · iexact Hx00
      isplitl [Hx01]
      · isplitl [Hx01]; · iexact Hx01
        iexact Hr01
      isplitl [Hx02]; · iexact Hx02
      isplitl [Hx03]; · iexact Hx03
      iexact Hr03
    isplitl [Ht0]; · iexact Ht0
    isplitl [Hc0]; · iexact Hc0
    isplitl [HP0]; · iexact HP0
    isplitl [HA]; · iexact HA
    isplitl [HS]; · iexact HS
    iexact HO
  iintro ⟨Hd0, HA, HS, Hs0, ⟨%W1, HO⟩⟩
  iapply (wp_stage X K 1 c Q _ W1)
  isplitl [Hx10 Hx11 Hx12 Hx13 Ht1 Hc1 HP1 HA HS HO]
  · isplitr; · iexact HI
    isplitr; · iexact Hlev
    isplitl [Hx10 Hx11 Hx12 Hx13]
    · unfold chan
      isplitl [Hx10]; · iexact Hx10
      isplitl [Hx11]
      · isplitl [Hx11]; · iexact Hx11
        iexact Hr11
      isplitl [Hx12]; · iexact Hx12
      isplitl [Hx13]; · iexact Hx13
      iexact Hr13
    isplitl [Ht1]; · iexact Ht1
    isplitl [Hc1]; · iexact Hc1
    isplitl [HP1]; · iexact HP1
    isplitl [HA]; · iexact HA
    isplitl [HS]; · iexact HS
    iexact HO
  iintro ⟨Hd1, HA, HS, Hs1, ⟨%W2, HO⟩⟩
  iapply (wp_stage X K 2 c Q _ W2)
  isplitl [Hx20 Hx21 Hx22 Hx23 Ht2 Hc2 HP2 HA HS HO]
  · isplitr; · iexact HI
    isplitr; · iexact Hlev
    isplitl [Hx20 Hx21 Hx22 Hx23]
    · unfold chan
      isplitl [Hx20]; · iexact Hx20
      isplitl [Hx21]
      · isplitl [Hx21]; · iexact Hx21
        iexact Hr21
      isplitl [Hx22]; · iexact Hx22
      isplitl [Hx23]; · iexact Hx23
      iexact Hr23
    isplitl [Ht2]; · iexact Ht2
    isplitl [Hc2]; · iexact Hc2
    isplitl [HP2]; · iexact HP2
    isplitl [HA]; · iexact HA
    isplitl [HS]; · iexact HS
    iexact HO
  iintro ⟨Hd2, HA, HS, Hs2, HO⟩
  iapply (wp_load 𝒱₀ (c : Thread nD τ) none Set.univ (m := sM) (S := Finset.univ) (Finset.subset_univ _)) $$ [HS]
  · iexact HS
  iintro HS
  iapply (wp_outs (k0_pay107 (sAt (stAt X 3 c) 1)) (accAt X 3 c) c Q _ o)
  isplitl [HA Ho]
  · isplitl [HA]; · iexact HA
    iexact Ho
  iintro ⟨HA, Ho⟩
  unfold wpB
  rw [wp_ret]
  imod (close_bar X K c) $$ [HaB] with HaB
  · isplitr; · iexact HI
    iexact HaB
  imod (close_stage X K 0 c) $$ [Hd0] with Hd0
  · isplitr; · iexact HI
    iexact Hd0
  imod (close_stage X K 1 c) $$ [Hd1] with Hd1
  · isplitr; · iexact HI
    iexact Hd1
  imod (close_stage X K 2 c) $$ [Hd2] with Hd2
  · isplitr; · iexact HI
    iexact Hd2
  imodintro
  iapply HW
  isplitl [Ht Hq Hk Hv Hbt Hln]
  · isplitl [Ht]; · iexact Ht
    isplitl [Hq]; · iexact Hq
    isplitl [Hk]; · iexact Hk
    isplitl [Hv]; · iexact Hv
    isplitl [Hbt]; · iexact Hbt
    iexact Hln
  isplitl [HA]; · iexists _; iexact HA
  isplitl [HS]; · iexists _; iexact HS
  isplitl [Ho]; · iexact Ho
  isplitl [Hs0 Hs1 Hs2]
  · unfold slots
    isplitl [Hs0]; · iexact Hs0
    isplitl [Hs1]; · iexact Hs1
    iexact Hs2
  isplitl [HaB]; · iexact HaB
  isplitl [Hd0 Hd1 Hd2]
  · isplitl [Hd0]; · iexact Hd0
    isplitl [Hd1]; · iexact Hd1
    iexact Hd2
  iexact HO

end Cert.KernelIdeal.Paged
-- ==== Proof.KernelIdeal.Table.lean ====
module

public import proofs.«01_k».proof.Proof.KernelIdeal.Body
public import proofs.«01_k».proof.Proof.Gen.KernelIdeal.Regions
public import Idealize.ShloMosaic.Lib.Claim
public import Idealize.ShloMosaic.Lib.Affine

/-!
# The host's part, and the table the windows read

Before the kernel a device works out which quarter of its pages is its own, `2 * (c / 2 % 2) + c % 2`, and lays the lengths
out as a column.  The word is the prefetched table of the kernel's pipeline; the windows of the keys and of the values read
it, so their blocks differ from one device to the next.
-/

@[expose] public section

set_option synthInstance.maxSize 4096

noncomputable section

namespace Cert.KernelIdeal.Paged

open Idealize.ShloMosaic Idealize.SL.Sem Cert.KernelIdeal.Gen
open Idealize.ShloMosaic.TcCoe

variable {F : FTy → Type} [FloatOps F]

variable (m : (ℓ : Loc nD τ sig) → Buf (Elt F) ℓ)

/-- The quarter of its pages that is device `c`'s own. -/
def qi (c : Dev nD) : ℕ := 2 * (c.val / 2 % 2) + c.val % 2
/-- There are four quarters. -/
theorem qi_lt (c : Dev nD) : qi c < 4 := by unfold qi; omega
/-- The same as the table's one word. -/
def qw (c : Dev nD) : BitVec 32 := BitVec.ofNat 32 (qi c)
/-- The word that the host computes for a device is the number of its quarter. -/
theorem qw_toNat (c : Dev nD) : (qw c).toNat = qi c := by revert c; decide

/-- The word the host's arithmetic comes to. -/
theorem host_word (c : Dev nD) :
    2#32 * (Dev.word c / 2#32 % 2#32) + Dev.word c / 1#32 % 2#32 = qw c := by revert c; decide

/-- After the host's part the table holds the quarter; -/
theorem V1_table (c : Dev nD) : V1 m c main_v12 = fun _ => qw c := by
  show StableHlo.after (hostOps0 c) (V0 m c) (Proc.devRef .tc main_v12) = _
  after_results
  funext i
  exact host_word c
/-- the lengths stand as a column; -/
theorem V1_lens (c : Dev nD) : V1 m c main_v1 = shapeCast S32x1 (m ((c : Thread nD τ).loc main_arg4)) shapeCasts_S32_S32x1 := by
  show StableHlo.after (hostOps0 c) (V0 m c) (Proc.devRef .tc main_v1) = _
  after_results
  rfl

/-- The table's contents as the pipeline reads them. -/
def tbl (c : Dev nD) : pre0.Contents (Elt F) := fun | 0 => (fun _ => qw c : main_v12.ty.Contents (Elt F)) | ⟨_ + 1, h⟩ => absurd h (Nat.not_lt.2 (Nat.le_add_left _ _))

/-- A block of 64 pages lies on whole words. -/
theorem ok_words (off : Fin 4 → ℕ) (h : ∀ a, (off a + 1) * S64x32x16x128.size a ≤ S256x32x16x128.size a) :
    EltTy.bits .bf16 = 32 ∨ (Rect.block (s := S256x32x16x128) S64x32x16x128.size off h).WholeWords (EltTy.packing .bf16) :=
  .inr (Affine.block_words_dvd (of_decide_eq_true rfl) (by decide))

/-- With a device's table the keys' window starts at the device's quarter. -/
theorem tbl_off (c : Dev nD) (i : grid0.Coords) : cc0_transform_1 inb_S1_S1_0 numel1_S1 (tbl (F := F) c) i = ![qi c, 0, 0, 0] := by
  show ![(qw c).toNat, 0, 0, 0] = _
  rw [qw_toNat]
/-- So does the values' window. -/
theorem tbl_off' (c : Dev nD) (i : grid0.Coords) : cc0_transform_2 inb_S1_S1_0 numel1_S1 (tbl (F := F) c) i = ![qi c, 0, 0, 0] := tbl_off c i

/-- The device's quarter lies inside its pages. -/
theorem inb_tbl (c : Dev nD) (a : Fin 4) : (![qi c, 0, 0, 0] a + 1) * S64x32x16x128.size a ≤ S256x32x16x128.size a := by
  revert a; revert c; decide

/-- The quarter is one of the four: the windows it places lie inside the arrays. -/
theorem tbl_ok (c : Dev nD) : ok0 (tbl (F := F) c) :=
  ⟨fun i => ⟨fun a => by rw [tbl_off]; exact inb_tbl c a, ok_words _ _⟩, fun i => ⟨fun a => by rw [tbl_off']; exact inb_tbl c a, ok_words _ _⟩⟩

/-- The table, device by device, as the pipeline takes it. -/
def adm (c : Dev nD) : (p : Fin 1) → (pcfgs (F := F) p).Adm := fun _ => ⟨tbl c, tbl_ok c⟩

end Cert.KernelIdeal.Paged
-- ==== Proof.KernelIdeal.Region.lean ====
module

public import proofs.«01_k».proof.Proof.KernelIdeal.Table

/-!
# The kernel's region

What the pipeline stages into the kernel's buffers, the body's obligation, and the region as a segment of the program: it is
entered owing `O₀` and left owing nothing, its result the array `outAt`.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-- Device `c`'s quarter of an array of pages. -/
def quarter (c : Dev nD) (A : Vec F S256x32x16x128 .bf16) : Vec F S64x32x16x128 .bf16 :=
  fun i => A ((Rect.block (s := S256x32x16x128) S64x32x16x128.size ![qi c, 0, 0, 0] (inb_tbl c)).emb i)

/-- What the kernel is given on device `c`. -/
def X (c : Dev nD) : In F where
  t := fun _ => qw c
  q := m ((c : Thread nD τ).loc main_arg0)
  k := quarter c (m ((c : Thread nD τ).loc main_arg1))
  v := quarter c (m ((c : Thread nD τ).loc main_arg2))
  bt := m ((c : Thread nD τ).loc main_arg3)
  ln := shapeCast S32x1 (m ((c : Thread nD τ).loc main_arg4)) shapeCasts_S32_S32x1

/-- Device `c`'s pipeline. -/
abbrev cfgc (c : Dev nD) : Pipeline.Cfg sig Λ₀ := Pipeline.pinD (pcfgs (F := F)) (adm (F := F)) c 0

/-- The scratch buffers at contents not chosen, the landing buffers cut into their slots. -/
def scratch (c : Dev nD) : sProp 𝕄 :=
  iprop((∃ A, pt c cc0_scratch0 A) ∗ (∃ S, pt c cc0_scratch1 S) ∗ (bigSep Finset.univ fun s => slots s c))

/-- What enters the kernel. -/
def Xin (c : Dev nD) : sProp 𝕄 := iprop((∃ K, ghosts (X m) K c) ∗ levAts L lv)
/-- What leaves it beside the transfer counters: the barrier's counter, at zero. -/
def Yout (c : Dev nD) : sProp 𝕄 := iprop(semVal (barC c) 0 ∗ pt c main_v12 (fun _ => qw c))

/-- What the body holds beside its staging buffers, before and after it runs. -/
def phiIn (c : Dev nD) : sProp 𝕄 := iprop(Xin m c ∗ pt c main_v12 (fun _ => qw c) ∗ scratch c)
def phiOut (c : Dev nD) : sProp 𝕄 := iprop(Yout c ∗ (bigSep Finset.univ fun s => stageZero s c) ∗ scratch c)

/-- The region's proof data: it owes `O₀` before its one point and nothing after. -/
def dat (c : Dev nD) : Dat τ (Elt F) Unit ℕ UU ℕ (cfgc (F := F) c) c where
  A := fun
    | 0 => V1 m c main_arg0
    | 1 => V1 m c main_arg1
    | 2 => V1 m c main_arg2
    | 3 => V1 m c main_arg3
    | 4 => V1 m c main_v1
    | 5 => V1 m c main_v13
    | ⟨_ + 6, h⟩ => absurd h (Nat.not_lt.2 (Nat.le_add_left _ _))
  after := fun
    | 0 => fun _ => (X m c).q
    | 1 => fun _ => (X m c).k
    | 2 => fun _ => (X m c).v
    | 3 => fun _ => (X m c).bt
    | 4 => fun _ => (X m c).ln
    | 5 => fun _ => outAt (X m) c
    | ⟨_ + 6, h⟩ => absurd h (Nat.not_lt.2 (Nat.le_add_left _ _))
  Φ t := if t.val = 0 then phiIn m c else phiOut c
  q _ := fullShare
  owed t := if t.val = 0 then O₀ c else 0

def pdats : (p : Fin 1) → (c : Dev nD) → Dat τ (Elt F) Unit ℕ UU ℕ (Pipeline.pinD (pcfgs (F := F)) (adm (F := F)) c p) c := fun | 0 => dat m | ⟨_ + 1, h⟩ => absurd h (Nat.not_lt.2 (Nat.le_add_left _ _))

abbrev t₀ (c : Dev nD) : Fin (cfgc (F := F) c).N := t0_0

/-- When the region starts the queries are as given. -/
theorem V1_arg0 (c : Dev nD) : V1 m c main_arg0 = m ((c : Thread nD τ).loc main_arg0) := V1_of m c main_arg0 (by decide)
/-- When the region starts the keys are as given. -/
theorem V1_arg1 (c : Dev nD) : V1 m c main_arg1 = m ((c : Thread nD τ).loc main_arg1) := V1_of m c main_arg1 (by decide)
/-- When the region starts the values are as given. -/
theorem V1_arg2 (c : Dev nD) : V1 m c main_arg2 = m ((c : Thread nD τ).loc main_arg2) := V1_of m c main_arg2 (by decide)
/-- When the region starts the block table is as given. -/
theorem V1_arg3 (c : Dev nD) : V1 m c main_arg3 = m ((c : Thread nD τ).loc main_arg3) := V1_of m c main_arg3 (by decide)

/-- Every input window is fetched at the one point. -/
theorem before_eq (c : Dev nD) (w : Fin 6) (h : ((cfgc (F := F) c).win w).fetch (t₀ (F := F) c) = true) (d) :
    (dat m c).before w (t₀ (F := F) c) d = (dat m c).fetched w (t₀ (F := F) c) d := if_pos h

/-- A window whose block is the whole array is staged whole. -/
theorem before0 (c : Dev nD) (d) : (dat m c).before 0 (t₀ (F := F) c) d = (X m c).q := by
  refine (before_eq m c 0 rfl d).trans (Eq.trans ?_ (V1_arg0 m c))
  funext i
  show V1 m c main_arg0 _ = V1 m c main_arg0 i
  refine congrArg _ ?_
  funext a; apply Fin.ext
  fin_cases a <;> exact (Nat.zero_add _).trans (Nat.one_mul _)
/-- The keys' window holds the device's quarter of the keys. -/
theorem before1 (c : Dev nD) (d) : (dat m c).before 1 (t₀ (F := F) c) d = (X m c).k := by
  refine (before_eq m c 1 rfl d).trans ?_
  show _ = quarter c _
  rw [← V1_arg1 m c]
  funext i
  show V1 m c main_arg1 _ = V1 m c main_arg1 _
  refine congrArg _ ?_
  funext a; apply Fin.ext
  fin_cases a
  · show (qw c).toNat * 64 + 1 * _ = qi c * 64 + 1 * _
    rw [qw_toNat]
  all_goals rfl
/-- The values' window holds the device's quarter of the values. -/
theorem before2 (c : Dev nD) (d) : (dat m c).before 2 (t₀ (F := F) c) d = (X m c).v := by
  refine (before_eq m c 2 rfl d).trans ?_
  show _ = quarter c _
  rw [← V1_arg2 m c]
  funext i
  show V1 m c main_arg2 _ = V1 m c main_arg2 _
  refine congrArg _ ?_
  funext a; apply Fin.ext
  fin_cases a
  · show (qw c).toNat * 64 + 1 * _ = qi c * 64 + 1 * _
    rw [qw_toNat]
  all_goals rfl
/-- The block table's window holds the block table. -/
theorem before3 (c : Dev nD) (d) : (dat m c).before 3 (t₀ (F := F) c) d = (X m c).bt := by
  refine (before_eq m c 3 rfl d).trans (Eq.trans ?_ (V1_arg3 m c))
  funext i
  show V1 m c main_arg3 _ = V1 m c main_arg3 i
  refine congrArg _ ?_
  funext a; apply Fin.ext
  fin_cases a <;> exact (Nat.zero_add _).trans (Nat.one_mul _)
/-- The lengths' window holds the lengths, as a column. -/
theorem before4 (c : Dev nD) (d) : (dat m c).before 4 (t₀ (F := F) c) d = (X m c).ln := by
  refine (before_eq m c 4 rfl d).trans (Eq.trans ?_ (V1_lens m c))
  funext i
  show V1 m c main_v1 _ = V1 m c main_v1 i
  refine congrArg _ ?_
  funext a; apply Fin.ext
  fin_cases a <;> exact (Nat.zero_add _).trans (Nat.one_mul _)

/-- The output's window is the whole output. -/
theorem emb5 (j : grid0.Coords) (i : S32x1x16x128.Idx) :
    (Rect.block (s := S32x1x16x128) S32x1x16x128.size (cc0_transform_5 j) (hinb0_5 j)).emb i = i := by
  funext a; apply Fin.ext
  fin_cases a <;> exact (Nat.zero_add _).trans (Nat.one_mul _)

/-- After the one point, an output's array holds what was flushed, read through its block. -/
theorem arr_one {cfg : Pipeline.Cfg sig Λ₀} {c : Dev nD} (D : Dat τ (Elt F) Unit ℕ UU ℕ cfg c) (w : Fin cfg.W) (h0 : 0 < cfg.N)
    (hf : (cfg.win w).flush ⟨0, h0⟩ = true) :
    ((cfg.win w).blk ⟨0, h0⟩).view.read (Elt F) (D.arrAt w 1) = D.flushed w ⟨0, h0⟩ := by
  have e : D.arrAt w 1 = ((cfg.win w).blk ⟨0, h0⟩).view.write (Elt F) (D.A w) (D.flushed w ⟨0, h0⟩) Finset.univ := by
    unfold Dat.arrAt
    simp only [h0, hf, dif_pos, if_true]
    rfl
  rw [e]
  exact View.read_write_univ _ _

/-- The output's window is written back at the only step. -/
theorem flush5 (c : Dev nD) : ((cfgc (F := F) c).win 5).flush (t₀ (F := F) c) = true := rfl

/-- Reading the output through its window gives the output. -/
theorem read5 (c : Dev nD) (f : Vec F S32x1x16x128 .f32) :
    (((cfgc (F := F) c).win 5).blk (t₀ (F := F) c)).view.read (Elt F) f = f := by
  funext i
  show f ((Rect.block (s := S32x1x16x128) S32x1x16x128.size (cc0_transform_5 (grid0.coords t0_0)) (hinb0_5 _)).emb i) = f i
  exact congrArg f (emb5 (grid0.coords t0_0) i)

/-- The output's array after the one point is what the body left. -/
theorem arrAt5 (c : Dev nD) : (dat m c).arrAt 5 1 = outAt (X m) c :=
  (read5 c ((dat m c).arrAt 5 1)).symm.trans (arr_one (dat m c) 5 (t₀ (F := F) c).isLt (flush5 c))

/-! ## The landing buffers and their slots -/

/-- The accumulator's slots of different stages are disjoint. -/
theorem raS_disj (s s' : Fin 3) (h : s ≠ s') : Disjoint (raS s).view.set (raS s').view.set := by
  rw [raS_set, raS_set]
  refine Rect.unit_disjoint (0 : Fin 3) ?_
  have := Fin.val_ne_of_ne h
  show s.val + 1 ≤ s'.val ∨ s'.val + 1 ≤ s.val
  omega
/-- The statistics' slots of different stages are disjoint. -/
theorem rsS_disj (s s' : Fin 3) (h : s ≠ s') : Disjoint (rsS s).view.set (rsS s').view.set := by
  rw [rsS_set, rsS_set]
  refine Rect.unit_disjoint (0 : Fin 4) ?_
  have := Fin.val_ne_of_ne h
  show s.val + 1 ≤ s'.val ∨ s'.val + 1 ≤ s.val
  omega
/-- The accumulator's three slots are the whole scratch. -/
theorem raS_all : (Finset.univ.biUnion fun s : Fin 3 => (raS s).view.set) = (Finset.univ : Finset S3x512x128.Idx) := by
  refine Finset.eq_univ_of_forall fun i => Finset.mem_biUnion.2 ⟨i 0, Finset.mem_univ _, ?_⟩
  refine Eq.mpr (congrArg (fun I => i ∈ I) (raS_set (i 0))) ?_
  refine Rect.mem_set_unit.2 fun a => ?_
  have h1 := (i 1).isLt; have h2 := (i 2).isLt
  fin_cases a
  · exact ⟨le_rfl, Nat.lt_succ_self _⟩
  · exact ⟨Nat.zero_le _, by simpa using h1⟩
  · exact ⟨Nat.zero_le _, by simpa using h2⟩
/-- The statistics' three slots are the whole scratch. -/
theorem rsS_all : (Finset.univ.biUnion fun s : Fin 3 => (rsS s).view.set) = (Finset.univ : Finset S3x2x32x16.Idx) := by
  refine Finset.eq_univ_of_forall fun i => Finset.mem_biUnion.2 ⟨i 0, Finset.mem_univ _, ?_⟩
  refine Eq.mpr (congrArg (fun I => i ∈ I) (rsS_set (i 0))) ?_
  refine Rect.mem_set_unit.2 fun a => ?_
  have h1 := (i 1).isLt; have h2 := (i 2).isLt; have h3 := (i 3).isLt
  fin_cases a
  · exact ⟨le_rfl, Nat.lt_succ_self _⟩
  · exact ⟨Nat.zero_le _, by simpa using h1⟩
  · exact ⟨Nat.zero_le _, by simpa using h2⟩
  · exact ⟨Nat.zero_le _, by simpa using h3⟩

/-- A landing buffer is its three slots. -/
theorem ra_split (c : Dev nD) (f : Vec F S3x512x128 .f32) : (pt c cc0_scratch2 f : sProp 𝕄) = bigSep Finset.univ fun s => raP s c f := by
  refine Eq.trans ?_ (pointsTo_biUnion (ℓ := (c : Thread nD τ).loc cc0_scratch2) Finset.univ (fun s : Fin 3 => (raS s).view.set) (fun s _ s' _ h => raS_disj s s' h))
  rw [raS_all]
/-- The statistics' scratch, split into its slots. -/
theorem rs_split (c : Dev nD) (f : Vec F S3x2x32x16 .f32) : (pt c cc0_scratch3 f : sProp 𝕄) = bigSep Finset.univ fun s => rsP s c f := by
  refine Eq.trans ?_ (pointsTo_biUnion (ℓ := (c : Thread nD τ).loc cc0_scratch3) Finset.univ (fun s : Fin 3 => (rsS s).view.set) (fun s _ s' _ h => rsS_disj s s' h))
  rw [rsS_all]
/-- The accumulator's three slots, joined to the scratch. -/
theorem ra_join (c : Dev nD) (fs : Fin 3 → Vec F S3x512x128 .f32) :
    (bigSep Finset.univ fun s => raP s c (fs s)) ⊢ (iprop(∃ f, pt c cc0_scratch2 f) : sProp 𝕄) := by
  refine BIBase.Entails.trans (pointsTo_biUnion_join (ℓ := (c : Thread nD τ).loc cc0_scratch2) Finset.univ (fun s : Fin 3 => (raS s).view.set) fs (fs 0) (fun s _ s' _ h => raS_disj s s' h)) ?_
  rw [raS_all]
  iintro ⟨%g, -, H⟩
  iexists g; iexact H
/-- The statistics' three slots, joined to the scratch. -/
theorem rs_join (c : Dev nD) (fs : Fin 3 → Vec F S3x2x32x16 .f32) :
    (bigSep Finset.univ fun s => rsP s c (fs s)) ⊢ (iprop(∃ f, pt c cc0_scratch3 f) : sProp 𝕄) := by
  refine BIBase.Entails.trans (pointsTo_biUnion_join (ℓ := (c : Thread nD τ).loc cc0_scratch3) Finset.univ (fun s : Fin 3 => (rsS s).view.set) fs (fs 0) (fun s _ s' _ h => rsS_disj s s' h)) ?_
  rw [rsS_all]
  iintro ⟨%g, -, H⟩
  iexists g; iexact H

/-- The scoped buffers that stage nothing, as the kernel has them. -/
theorem scratch_eq (c : Dev nD) : (Pipeline.scopedRest (Ix := Unit) (Name := ℕ) (U := UU) (Lvl := ℕ) (Val := Elt F) spec0 c : sProp 𝕄) ⊣⊢ scratch c := by
  rw [scopedRest0_eq]
  unfold scratch slots
  rw [three]
  constructor
  · iintro ⟨Ha, Hb, ⟨%f, Hc⟩, ⟨%g, Hd⟩⟩
    isplitl [Ha]; · iexact Ha
    isplitl [Hb]; · iexact Hb
    ihave Hc' := (Entails.of_eq ((ra_split c f).trans (three _))) $$ Hc
    ihave Hd' := (Entails.of_eq ((rs_split c g).trans (three _))) $$ Hd
    icases Hc' with ⟨H0, H1, H2⟩
    icases Hd' with ⟨G0, G1, G2⟩
    isplitl [H0 G0]
    · isplitl [H0] <;> [iexists f; iexists g] <;> iassumption
    isplitl [H1 G1]
    · isplitl [H1] <;> [iexists f; iexists g] <;> iassumption
    · isplitl [H2] <;> [iexists f; iexists g] <;> iassumption
  · iintro ⟨Ha, Hb, ⟨⟨%f0, H0⟩, ⟨%g0, G0⟩⟩, ⟨⟨%f1, H1⟩, ⟨%g1, G1⟩⟩, ⟨⟨%f2, H2⟩, ⟨%g2, G2⟩⟩⟩
    isplitl [Ha]; · iexact Ha
    isplitl [Hb]; · iexact Hb
    isplitl [H0 H1 H2]
    · iapply (ra_join c ![f0, f1, f2])
      rw [three]
      isplitl [H0]; · iexact H0
      isplitl [H1]; · iexact H1
      iexact H2
    · iapply (rs_join c ![g0, g1, g2])
      rw [three]
      isplitl [G0]; · iexact G0
      isplitl [G1]; · iexact G1
      iexact G2

end Cert.KernelIdeal.Paged
-- ==== Proof.KernelIdeal.Seg.lean ====
module

public import proofs.«01_k».proof.Proof.KernelIdeal.Region

/-!
# The region as a segment of the program

The body's obligation from `body_run`, and what the region takes from the program's state and gives back to it.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## The body's obligation -/

/-- Before the body a device owes its signals and arrivals. -/
theorem owed_first (c : Dev nD) : (dat m c).owed (t₀ (F := F) c).castSucc = O₀ c := by
  show (if (0 : ℕ) = 0 then O₀ c else 0) = O₀ c
  exact if_pos rfl
/-- After the body it owes nothing. -/
theorem owed_last (c : Dev nD) : (dat m c).owed (t₀ (F := F) c).succ = 0 := by
  show (if (0 + 1 : ℕ) = 0 then O₀ c else 0) = 0
  exact if_neg Nat.one_ne_zero

/-- What a device owes at a step, packed for the pipeline. -/
theorem owesAt_intro (c : Dev nD) (t : Fin ((cfgc (F := F) c).N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO
  iexists W
  isplitr; · ipureintro; exact fun _ _ => Or.inl trivial
  iexact HO
/-- What a device owes at a step, taken from the pipeline. -/
theorem owesAt_elim (c : Dev nD) (t : Fin ((cfgc (F := F) c).N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩
  iexists W
  iexact HO

/-- The label's program is the body that `body_run` runs. -/
theorem body_lbl (c : Dev nD) : defs₀ (F := F) .tc (cfgc (F := F) c).body ((cfgc (F := F) c).bodyArgs (t₀ (F := F) c) ((cfgc (F := F) c).slots (t₀ (F := F) c))) = kbody :=
  (congrFun rfl _).trans (body_eq (F := F) (grid0.coords t0_0) _ _ _ _ _ _)

/-- The scratch space and the inputs, into the body. -/
theorem body_entry (c : Dev nD) (Q : PUnit → sProp 𝕄) (o : Vec F S32x1x16x128 .f32) :
    iprop((Xin m c ∗ pt c main_v12 (fun _ => qw c) ∗ scratch c) ∗ (∃ W, owes (c : Thread nD τ) (O₀ c) W)
        ∗ pt c cc0_stg0_0 (X m c).q ∗ pt c cc0_stg1_0 (X m c).k ∗ pt c cc0_stg2_0 (X m c).v ∗ pt c cc0_stg3_0 (X m c).bt ∗ pt c cc0_stg4_0 (X m c).ln
        ∗ pt c cc0_stg5_0 o
      ∗ (((Yout c ∗ (bigSep Finset.univ fun s => stageZero s c) ∗ scratch c) ∗ (∃ W, owes (c : Thread nD τ) 0 W)
        ∗ pt c cc0_stg0_0 (X m c).q ∗ pt c cc0_stg1_0 (X m c).k ∗ pt c cc0_stg2_0 (X m c).v ∗ pt c cc0_stg3_0 (X m c).bt ∗ pt c cc0_stg4_0 (X m c).ln
        ∗ pt c cc0_stg5_0 (outAt (X m) c)) -∗ Q ⟨⟩)) ⊢ wpB c kbody Q := by
  unfold Xin scratch Yout
  iintro ⟨⟨⟨⟨%K, Hg⟩, Hlev⟩, Ht, ⟨%A, HA⟩, ⟨%S, HS⟩, Hsl⟩, ⟨%W, HO⟩, Hq, Hk, Hv, Hb, Hl, Ho, HW⟩
  iapply (body_run (X m) K c Q W A S o)
  isplitr [HW]
  · isplitl [Hg]; · iexact Hg
    isplitl [Hlev]; · iexact Hlev
    isplitl [Ht Hq Hk Hv Hb Hl]
    · unfold inputs
      isplitl [Ht]; · iexact Ht
      isplitl [Hq]; · iexact Hq
      isplitl [Hk]; · iexact Hk
      isplitl [Hv]; · iexact Hv
      isplitl [Hb]; · iexact Hb
      iexact Hl
    isplitl [HA]; · iexact HA
    isplitl [HS]; · iexact HS
    isplitl [Ho]; · iexact Ho
    isplitl [Hsl]; · iexact Hsl
    iexact HO
  unfold inputs
  iintro ⟨⟨Ht, Hq, Hk, Hv, Hb, Hl⟩, HA, HS, Ho, Hsl, HB, HZ, HO⟩
  iapply HW
  isplitl [Ht HA HS Hsl HB HZ]
  · isplitl [HB Ht]
    · isplitl [HB]; · iexact HB
      iexact Ht
    isplitl [HZ]; · iexact HZ
    isplitl [HA]; · iexact HA
    isplitl [HS]; · iexact HS
    iexact Hsl
  isplitl [HO]; · iexact HO
  isplitl [Hq]; · iexact Hq
  isplitl [Hk]; · iexact Hk
  isplitl [Hv]; · iexact Hv
  isplitl [Hb]; · iexact Hb
  isplitl [Hl]; · iexact Hl
  iexact Ho

/-- A whole staging buffer owned at `f` is its points-to. -/
theorem own (c : Dev nD) (b : Ref sig .tc) (f : Buf (Elt F) ((c : Thread nD τ).loc b)) : (owns (c : Thread nD τ) (Memref.whole b) fullShare f : sProp 𝕄) = pt c b f :=
  owns_whole (c : Thread nD τ) b fullShare f

/-- What a window's staging buffer holds at the point, and what it is left with. -/
def stBefore (c : Dev nD) (w : Fin 6) : sProp 𝕄 :=
  iprop(∃ d, owns (c : Thread nD τ) (((cfgc (F := F) c).win w).stage ((cfgc (F := F) c).slots (t₀ (F := F) c) w)) fullShare ((dat m c).before w (t₀ (F := F) c) d))
def stAfter (c : Dev nD) (w : Fin 6) : sProp 𝕄 :=
  owns (c : Thread nD τ) (((cfgc (F := F) c).win w).stage ((cfgc (F := F) c).slots (t₀ (F := F) c) w)) fullShare ((dat m c).after w (t₀ (F := F) c))

/-- Before the body the first staging buffer holds the queries. -/
theorem stB0 (c : Dev nD) : stBefore m c 0 ⊢ pt c cc0_stg0_0 (X m c).q := by
  unfold stBefore
  iintro ⟨%d, H⟩
  iapply (Entails.of_eq ((congrArg (fun f => owns (c : Thread nD τ) (Memref.whole cc0_stg0_0) fullShare f) (before0 m c d)).trans (own c cc0_stg0_0 (X m c).q)))
  iexact H
/-- And after it. -/
theorem stA0 (c : Dev nD) : stAfter m c 0 = pt c cc0_stg0_0 (X m c).q := own c cc0_stg0_0 (X m c).q
/-- Before the body the second staging buffer holds the device's quarter of the keys. -/
theorem stB1 (c : Dev nD) : stBefore m c 1 ⊢ pt c cc0_stg1_0 (X m c).k := by
  unfold stBefore
  iintro ⟨%d, H⟩
  iapply (Entails.of_eq ((congrArg (fun f => owns (c : Thread nD τ) (Memref.whole cc0_stg1_0) fullShare f) (before1 m c d)).trans (own c cc0_stg1_0 (X m c).k)))
  iexact H
/-- And after it. -/
theorem stA1 (c : Dev nD) : stAfter m c 1 = pt c cc0_stg1_0 (X m c).k := own c cc0_stg1_0 (X m c).k
/-- Before the body the third staging buffer holds the device's quarter of the values. -/
theorem stB2 (c : Dev nD) : stBefore m c 2 ⊢ pt c cc0_stg2_0 (X m c).v := by
  unfold stBefore
  iintro ⟨%d, H⟩
  iapply (Entails.of_eq ((congrArg (fun f => owns (c : Thread nD τ) (Memref.whole cc0_stg2_0) fullShare f) (before2 m c d)).trans (own c cc0_stg2_0 (X m c).v)))
  iexact H
/-- And after it. -/
theorem stA2 (c : Dev nD) : stAfter m c 2 = pt c cc0_stg2_0 (X m c).v := own c cc0_stg2_0 (X m c).v
/-- Before the body the fourth staging buffer holds the block table. -/
theorem stB3 (c : Dev nD) : stBefore m c 3 ⊢ pt c cc0_stg3_0 (X m c).bt := by
  unfold stBefore
  iintro ⟨%d, H⟩
  iapply (Entails.of_eq ((congrArg (fun f => owns (c : Thread nD τ) (Memref.whole cc0_stg3_0) fullShare f) (before3 m c d)).trans (own c cc0_stg3_0 (X m c).bt)))
  iexact H
/-- And after it. -/
theorem stA3 (c : Dev nD) : stAfter m c 3 = pt c cc0_stg3_0 (X m c).bt := own c cc0_stg3_0 (X m c).bt
/-- Before the body the fifth staging buffer holds the lengths. -/
theorem stB4 (c : Dev nD) : stBefore m c 4 ⊢ pt c cc0_stg4_0 (X m c).ln := by
  unfold stBefore
  iintro ⟨%d, H⟩
  iapply (Entails.of_eq ((congrArg (fun f => owns (c : Thread nD τ) (Memref.whole cc0_stg4_0) fullShare f) (before4 m c d)).trans (own c cc0_stg4_0 (X m c).ln)))
  iexact H
/-- And after it. -/
theorem stA4 (c : Dev nD) : stAfter m c 4 = pt c cc0_stg4_0 (X m c).ln := own c cc0_stg4_0 (X m c).ln
/-- Before the body the output's staging buffer holds something. -/
theorem stB5 (c : Dev nD) : stBefore m c 5 ⊢ iprop(∃ o, pt c cc0_stg5_0 o) := by
  unfold stBefore
  iintro ⟨%d, H⟩
  iexists (dat m c).before 5 (t₀ (F := F) c) d
  iapply (Entails.of_eq (own c cc0_stg5_0 ((dat m c).before 5 (t₀ (F := F) c) d)))
  iexact H
/-- After it the output's staging buffer holds the kernel's value. -/
theorem stA5 (c : Dev nD) : stAfter m c 5 = pt c cc0_stg5_0 (outAt (X m) c) := own c cc0_stg5_0 (outAt (X m) c)

/-- What the body holds beside its staging buffers before it runs. -/
theorem Φ_first (c : Dev nD) : (dat m c).Φ (t₀ (F := F) c).castSucc = phiIn m c := by
  show (if (0 : ℕ) = 0 then phiIn m c else phiOut c) = phiIn m c
  exact if_pos rfl
/-- What it holds after it ran. -/
theorem Φ_last (c : Dev nD) : (dat m c).Φ (t₀ (F := F) c).succ = phiOut c := by
  show (if (0 + 1 : ℕ) = 0 then phiIn m c else phiOut c) = phiOut c
  exact if_neg Nat.one_ne_zero

/-- The body, from the pipeline's assertion before the step to the one after it. -/
theorem body_pt (c : Dev nD) :
    iprop((dat m c).Φ (t₀ (F := F) c).castSucc ∗ (dat m c).owesAt () (t₀ (F := F) c).castSucc ∗ bigSep Finset.univ fun w : Fin 6 => stBefore m c w)
    ⊢ wpB c kbody fun _ =>
      iprop((dat m c).Φ (t₀ (F := F) c).succ ∗ (dat m c).owesAt () (t₀ (F := F) c).succ ∗ bigSep Finset.univ fun w : Fin 6 => stAfter m c w) := by
  rw [bigSep_W0, bigSep_W0, Φ_first, Φ_last, stA0, stA1, stA2, stA3, stA4, stA5]
  unfold phiIn phiOut
  iintro ⟨HΦ, HO, H0, H1, H2, H3, H4, H5⟩
  ihave H5' := (stB5 m c) $$ H5
  icases H5' with ⟨%o, H5⟩
  iapply (body_entry m c _ o)
  isplitl [HΦ]; · iexact HΦ
  isplitl [HO]; · iapply (owesAt_elim m c _ _ (owed_first m c)); iexact HO
  isplitl [H0]; · iapply (stB0 m c); iexact H0
  isplitl [H1]; · iapply (stB1 m c); iexact H1
  isplitl [H2]; · iapply (stB2 m c); iexact H2
  isplitl [H3]; · iapply (stB3 m c); iexact H3
  isplitl [H4]; · iapply (stB4 m c); iexact H4
  isplitl [H5]; · iexact H5
  iintro ⟨HΦ, ⟨%W, HO⟩, HR⟩
  isplitl [HΦ]; · iexact HΦ
  isplitl [HO]; · iapply (owesAt_intro m c _ _ (owed_last m c) W); iexact HO
  iexact HR

set_option maxRecDepth 10000 in
theorem body_ob (c : Dev nD) : Pipeline.BodyObligation (dat m c) (defs₀ (F := F)) 𝒱₀ () Set.univ := fun t => by
  obtain rfl := fin_N0 t
  have h := body_pt m c
  rw [← body_lbl] at h
  exact h

/-! ## What the region takes and gives -/

/-- The kernel's own semaphores: the twelve transfer semaphores. -/
def osem (j : Fin 12) : SemLoc sig := .dma (semN j)

/-- The twelve transfer semaphores are the body's own. -/
theorem osem_facts : Pipeline.OwnSemFacts spec0 osem := by decide

/-- The body's own semaphores, one by one. -/
theorem twelve (c : Dev nD) : (Pipeline.ownSems0 osem c : sProp 𝕄)
    = iprop(semVal (xC (semI 0 0) c) 0 ∗ semVal (xC (semI 0 1) c) 0 ∗ semVal (xC (semI 0 2) c) 0 ∗ semVal (xC (semI 0 3) c) 0 ∗ semVal (xC (semI 1 0) c) 0 ∗ semVal (xC (semI 1 1) c) 0 ∗ semVal (xC (semI 1 2) c) 0 ∗ semVal (xC (semI 1 3) c) 0 ∗ semVal (xC (semI 2 0) c) 0 ∗ semVal (xC (semI 2 1) c) 0 ∗ semVal (xC (semI 2 2) c) 0 ∗ semVal (xC (semI 2 3) c) 0) :=
  Pipeline.ownSems0_eq_of_list c osem [0, 1, 2, 3, 4, 5, 6, 7, 8, 9, 10, 11] (by decide) (by decide)

/-- The body's own semaphores, stage by stage. -/
theorem own_eq (c : Dev nD) : (Pipeline.ownSems0 osem c : sProp 𝕄) ⊣⊢ bigSep Finset.univ fun s => stageZero s c := by
  rw [twelve, three]
  unfold stageZero
  constructor
  · iintro ⟨H0, H1, H2, H3, H4, H5, H6, H7, H8, H9, H10, H11⟩
    isplitl [H0 H1 H2 H3]
    · isplitl [H0]; · iexact H0
      isplitl [H1]; · iexact H1
      isplitl [H2]; · iexact H2
      iexact H3
    isplitl [H4 H5 H6 H7]
    · isplitl [H4]; · iexact H4
      isplitl [H5]; · iexact H5
      isplitl [H6]; · iexact H6
      iexact H7
    · isplitl [H8]; · iexact H8
      isplitl [H9]; · iexact H9
      isplitl [H10]; · iexact H10
      iexact H11
  · iintro ⟨⟨H0, H1, H2, H3⟩, ⟨H4, H5, H6, H7⟩, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- A stage's ghost state before its counters are put under the protocol. -/
def stageShut (s : Fin 3) (c : Dev nD) : sProp 𝕄 :=
  iprop((openTok ER (xC (semI s 0) c) ∗ openTok ER (xC (semI s 1) c) ∗ openTok ER (xC (semI s 2) c) ∗ openTok ER (xC (semI s 3) c))
    ∗ stageToks s c ∗ stageCreds s c ∗ dutyTok ER (barC (peer s c)) 0 s)

/-- What a device is given at launch. -/
def launched (K : GSem nD τ sig → ℕ) (c : Dev nD) : sProp 𝕄 :=
  iprop(records (X m) K ∗ atPos ER (barC c) 0 ∅ 0 ∗ cred (tallyAt (barC c) () 3) ∗ bigSep Finset.univ fun s => stageShut s c)

/-- A transfer semaphore at zero opens its cell. -/
theorem open_x (K : GSem nD τ sig → ℕ) (j : Fin 12) (c : Dev nD) :
    iprop(records (X m) K ∗ openTok ER (xC j c) ∗ semVal (xC j c) 0) ⊢ (|={Set.univ}=> chan j c : sProp 𝕄) := by
  iintro ⟨#HI, Ho, Hs⟩
  imod (Rounds.cell_open ER (sched (X m)) (g := xC j c) (Set.mem_univ (K (xC j c)))) $$ [Ho Hs] with ⟨Ha, #Hr⟩
  · isplitr; · iapply (rec_x (X m) K); iexact HI
    isplitl [Ho]; · iexact Ho
    iexact Hs
  imodintro
  unfold chan
  isplitl [Ha]; · iexact Ha
  iexact Hr

/-- Four of them open a stage. -/
theorem open_stage (K : GSem nD τ sig → ℕ) (s : Fin 3) (c : Dev nD) :
    iprop(records (X m) K ∗ stageShut s c ∗ stageZero s c) ⊢ (|={Set.univ}=> stageGh s c : sProp 𝕄) := by
  unfold stageShut stageZero stageGh
  iintro ⟨#HI, ⟨⟨O0, O1, O2, O3⟩, HR⟩, Z0, Z1, Z2, Z3⟩
  imod (open_x m K (semI s 0) c) $$ [O0 Z0] with H0
  · isplitr; · iexact HI
    isplitl [O0]; · iexact O0
    iexact Z0
  imod (open_x m K (semI s 1) c) $$ [O1 Z1] with H1
  · isplitr; · iexact HI
    isplitl [O1]; · iexact O1
    iexact Z1
  imod (open_x m K (semI s 2) c) $$ [O2 Z2] with H2
  · isplitr; · iexact HI
    isplitl [O2]; · iexact O2
    iexact Z2
  imod (open_x m K (semI s 3) c) $$ [O3 Z3] with H3
  · isplitr; · iexact HI
    isplitl [O3]; · iexact O3
    iexact Z3
  imodintro
  isplitr [HR]
  · isplitl [H0]; · iexact H0
    isplitl [H1]; · iexact H1
    isplitl [H2]; · iexact H2
    iexact H3
  iexact HR

/-- All twelve open the three stages. -/
theorem open_all (K : GSem nD τ sig → ℕ) (c : Dev nD) :
    iprop(launched m K c ∗ Pipeline.ownSems0 osem c) ⊢ (|={Set.univ}=> ghosts (X m) K c : sProp 𝕄) := by
  unfold launched ghosts
  rw [three, three]
  iintro ⟨⟨#HI, Ha, Hc, S0, S1, S2⟩, HZ⟩
  ihave HZ' := ((own_eq c).1.trans (Entails.of_eq (three _))) $$ HZ
  icases HZ' with ⟨Z0, Z1, Z2⟩
  imod (open_stage m K 0 c) $$ [S0 Z0] with H0
  · isplitr; · iexact HI
    isplitl [S0]; · iexact S0
    iexact Z0
  imod (open_stage m K 1 c) $$ [S1 Z1] with H1
  · isplitr; · iexact HI
    isplitl [S1]; · iexact S1
    iexact Z1
  imod (open_stage m K 2 c) $$ [S2 Z2] with H2
  · isplitr; · iexact HI
    isplitl [S2]; · iexact S2
    iexact Z2
  imodintro
  isplitr; · iexact HI
  isplitl [Ha]; · iexact Ha
  isplitl [Hc]; · iexact Hc
  isplitl [H0]; · iexact H0
  isplitl [H1]; · iexact H1
  iexact H2

end Cert.KernelIdeal.Paged
-- ==== Proof.KernelIdeal.Reg.lean ====
module

public import proofs.«01_k».proof.Proof.KernelIdeal.Seg

/-!
# The region's record

The region of the kernel as a segment: entered with every buffer as the host operations leave it, left with the result in its array
and every other buffer as it was.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-- An assertion entails itself. -/
theorem same (P : sProp 𝕄) : Idealize.SL.BI.Entails P P := by
  have h : P ⊢ P := Entails.of_eq rfl
  exact h

/-- The program's buffers after the region. -/
def Vx (c : Dev nD) : Valuation τ sig (Elt F) := Function.update (V1 m c) main_v13 (outAt (X m) c)
/-- After the region the result is the kernel's value. -/
theorem Vx_out (c : Dev nD) : Vx m c main_v13 = outAt (X m) c := Function.update_self _ _ _
/-- After the region every other buffer is as before it. -/
theorem Vx_of (c : Dev nD) (r : Ref sig .tc) (h : r ≠ main_v13) : Vx m c r = V1 m c r :=
  Function.update_of_ne (StableHlo.devRef_ne_of_ne h) _ _

/-- What a device carries to the region beside its buffers. -/
def carry (c : Dev nD) : sProp 𝕄 := iprop((∃ K, launched m K c) ∗ ∃ W, owes (c : Thread nD τ) (O₀ c) W)

/-- The one table is the word a device's host operations leave. -/
theorem pref_eq (c : Dev nD) (V : pre0.Contents (Elt F)) (h : V 0 = fun _ => qw c) :
    (Pipeline.prefHeld pre0 c (fun _ => fullShare) V : sProp 𝕄) = pt c main_v12 (fun _ => qw c) := by
  unfold Pipeline.prefHeld
  refine (bigSep_univ_eq_bigSepL [(0 : Fin 1)] (by decide) (by decide) _).trans ?_
  show pt c main_v12 (V 0) = _
  rw [h]

/-- Every window's array is owned whole. -/
theorem share_full (c : Dev nD) (w : Fin 6) : (dat m c).share w = fullShare := by
  unfold Dat.share; split <;> rfl

/-- The arrays of the pipeline before it runs are the buffers' contents. -/
theorem A_eq (c : Dev nD) (w : Fin 6) : (dat m c).A w = V1 m c (Pipeline.arrRef spec0 w) := by
  revert w
  exact fun | 0 => rfl | 1 => rfl | 2 => rfl | 3 => rfl | 4 => rfl | 5 => rfl | ⟨_ + 6, h⟩ => absurd h (Nat.not_lt.2 (Nat.le_add_left _ _))

/-- The arrays of the pipeline after it ran are the buffers' contents after the region. -/
theorem arr_N (c : Dev nD) (w : Fin 6) : (dat m c).arrAt w 1 = Vx m c (Pipeline.arrRef spec0 w) := by
  revert w
  exact fun
    | 0 => ((dat m c).arrAt_in 0 rfl 1).trans (Vx_of m c main_arg0 (by decide)).symm
    | 1 => ((dat m c).arrAt_in 1 rfl 1).trans (Vx_of m c main_arg1 (by decide)).symm
    | 2 => ((dat m c).arrAt_in 2 rfl 1).trans (Vx_of m c main_arg2 (by decide)).symm
    | 3 => ((dat m c).arrAt_in 3 rfl 1).trans (Vx_of m c main_arg3 (by decide)).symm
    | 4 => ((dat m c).arrAt_in 4 rfl 1).trans (Vx_of m c main_v1 (by decide)).symm
    | 5 => (arrAt5 m c).trans (Vx_out m c).symm
    | ⟨_ + 6, h⟩ => absurd h (Nat.not_lt.2 (Nat.le_add_left _ _))

/-- The buffers that the pipeline does not touch are the same before and after it. -/
theorem rest_eq (c : Dev nD) :
    (Pipeline.unscopedRestP (Ix := Unit) (Name := ℕ) (U := UU) (Lvl := ℕ) pre0 spec0 c (fun b => Vx m c b) : sProp 𝕄)
      = Pipeline.unscopedRestP pre0 spec0 c (fun b => V1 m c b) := by
  rw [unscopedRestP0_eq, unscopedRestP0_eq]
  rw [Vx_of m c main_arg4 (by decide), Vx_of m c main_c (by decide), Vx_of m c main_c_0 (by decide), Vx_of m c main_v2 (by decide),
    Vx_of m c main_v3 (by decide), Vx_of m c main_v4 (by decide), Vx_of m c main_v5 (by decide), Vx_of m c main_c_1 (by decide),
    Vx_of m c main_v6 (by decide), Vx_of m c main_c_2 (by decide), Vx_of m c main_c_3 (by decide), Vx_of m c main_v7 (by decide),
    Vx_of m c main_v8 (by decide), Vx_of m c main_v9 (by decide), Vx_of m c main_v10 (by decide), Vx_of m c main_v11 (by decide)]

/-- Entering: the buffers are the windows' arrays, the table and the rest. -/
theorem enter (c : Dev nD) :
    (StableHlo.held (c : Thread nD τ) (Pipeline.ucRefs τ sig) (V1 m c) : sProp 𝕄)
      ⊢ iprop((dat m c).arrays ((dat m c).arrAt · 0) ∗ pt c main_v12 (fun _ => qw c) ∗ Pipeline.unscopedRestP pre0 spec0 c (fun b => V1 m c b)) := by
  refine BIBase.Entails.trans (Entails.of_eq (Pipeline.unscopedBufs_held c (V1 m c)).symm) ?_
  refine BIBase.Entails.trans (Pipeline.PerCore.arrays_of_unscopedBufs (pcfgs (F := F)) (adm (F := F)) (pdats m) (p := 0) winFacts0 arr_whole0 c
    (share_full m c) (fun b => V1 m c b) (A_eq m c)) ?_
  refine BI.sep_mono (same _) ?_
  refine BIBase.Entails.trans (Entails.of_eq (Pipeline.unscopedRest_split preFacts0 c (fun b => V1 m c b))) ?_
  exact BI.sep_mono (Entails.of_eq (pref_eq c _ (V1_table m c))) (same _)

/-- Leaving: the same with the result in its array. -/
theorem leave (c : Dev nD) :
    iprop((dat m c).arrays ((dat m c).arrAt · 1) ∗ pt c main_v12 (fun _ => qw c) ∗ Pipeline.unscopedRestP pre0 spec0 c (fun b => V1 m c b))
      ⊢ (StableHlo.held (c : Thread nD τ) (Pipeline.ucRefs τ sig) (Vx m c) : sProp 𝕄) := by
  refine BIBase.Entails.trans ?_ (Entails.of_eq (Pipeline.unscopedBufs_held c (Vx m c)))
  refine BIBase.Entails.trans ?_ (Entails.of_eq (Pipeline.PerCore.unscopedBufs_split (Pipeline.pinD (pcfgs (F := F)) (adm (F := F))) 0 c winFacts0.arr_unscoped winFacts0.arr_inj (fun b => Vx m c b)).symm)
  refine BI.sep_mono ?_ ?_
  · refine Entails.of_eq ((Pipeline.PerCore.arrays_eq (Pipeline.pinD (pcfgs (F := F)) (adm (F := F))) (pdats m) 0 c arr_whole0 (share_full m c) _).trans ?_)
    exact bigSep_congr fun w _ => congrArg (fun f => (((c : Thread nD τ).loc (Pipeline.arrRef spec0 w)) ↦{fullShare} f : sProp 𝕄)) (arr_N m c w)
  · refine BIBase.Entails.trans ?_ (Entails.of_eq (Pipeline.unscopedRest_split preFacts0 c (fun b => Vx m c b)).symm)
    refine BI.sep_mono (Entails.of_eq (pref_eq c _ ?_).symm) (Entails.of_eq (rest_eq m c).symm)
    exact (Vx_of m c main_v12 (by decide)).trans (V1_table m c)

/-- What the region owes lies above level zero. -/
theorem above_dat (c : Dev nD) (t : Fin ((cfgc (F := F) c).N + 1)) : Above 0 ((dat m c).owed t) := by
  show Above 0 (if t.val = 0 then O₀ c else 0)
  split
  · exact above_O₀ c
  · exact fun g u h => absurd h (Nat.lt_irrefl 0)

/-- The staging semaphores have level zero. -/
theorem lv_low (c : Dev nD) (q : DmaSem sig) (h : q.val < 6) : lv ((c : Thread nD τ), .dma q) () ≤ 0 := by
  have e : decJ (.dma q) = none := dif_neg (Nat.not_le.2 h)
  show (match decJ (.dma q) with | some j => _ | none => _) ≤ 0
  rw [e]
  show (if (SemLoc.dma q : SemLoc sig) = .reg barS then 1 else 0) ≤ 0
  rw [if_neg (fun e => by cases e)]

/-- The staging semaphores are the first six. -/
theorem low_stage : ∀ (w : Fin 6) (s : Fin (spec0 w).nbuf), ((spec0 w).sem s).val < 6 := by decide

/-- The semaphore of a window has level zero. -/
theorem lv_stage (c : Dev nD) (w : Fin 6) (s : Fin (spec0 w).nbuf) : lv ((c : Thread nD τ), .dma (((cfgc (F := F) c).win w).sem s)) () ≤ 0 :=
  lv_low c _ (low_stage w s)

def reg0 : Pipeline.PerCore.RegionSeg (pcfgs (F := F)) (adm (F := F)) (pdats m) () (defs₀ (F := F)) 𝒱₀ L lv 0 where
  win := winFacts0.to₀
  block_pos := block_pos0
  stage_whole := stage_whole0
  K := Fin 12
  osem := osem
  ho := osem_facts
  hbody c := (body_ob m c).loose
  hwaits c := Pipeline.PerCore.cellsWaits_intro _ (pdats m) () 0 c fun w s t => mayWait c _ 0 (lv_stage c w s) _ (above_dat m c t)
  pre c := iprop(StableHlo.held (c : Thread nD τ) (Pipeline.ucRefs τ sig) (V1 m c) ∗ carry m c)
  post c := iprop((StableHlo.held (c : Thread nD τ) (Pipeline.ucRefs τ sig) (Vx m c) ∗ semVal (barC c) 0) ∗ ∃ W, owes (c : Thread nD τ) 0 W)
  X c := Xin m c
  Y c := Yout c
  Z c := Pipeline.unscopedRestP pre0 spec0 c (fun b => V1 m c b)
  hentry c := by
    unfold carry Xin
    iintro ⟨⟨Hh, ⟨%K, Hl⟩, %W, HO⟩, Hs, Hlev⟩
    ihave He := (enter m c) $$ Hh
    icases He with ⟨Ha, Ht, Hr⟩
    imod (open_all m K c) $$ [Hl Hs] with Hg
    · isplitl [Hl]; · iexact Hl
      iexact Hs
    imodintro
    isplitl [Ha]; · iexact Ha
    isplitl [Ht]; · iapply (Entails.of_eq (pref_eq c (tbl c) rfl).symm); iexact Ht
    isplitl [HO]; · iapply (owesAt_intro m c 0 (O₀ c) (owed_first m c) W); iexact HO
    isplitl [Hg Hlev]
    · isplitl [Hg]; · iexists K; iexact Hg
      iexact Hlev
    iexact Hr
  hin c := by
    refine BIBase.Entails.trans ?_ (Entails.of_eq (Φ_first m c).symm)
    unfold phiIn
    refine BI.sep_mono (same _) (BI.sep_mono (Entails.of_eq (pref_eq c (tbl c) rfl)) (scratch_eq c).1)
  hout c := by
    refine BIBase.Entails.trans (Entails.of_eq (Φ_last m c)) ?_
    unfold phiOut
    exact BI.sep_mono (same _) (BI.sep_mono (own_eq c).2 (scratch_eq c).2)
  hexit c := by
    unfold Yout
    iintro ⟨Ha, HO, ⟨HB, Ht⟩, Hr⟩
    imodintro
    isplitl [Ha Ht Hr HB]
    · isplitr [HB]
      · iapply (leave m c)
        isplitl [Ha]; · iexact Ha
        isplitl [Ht]; · iexact Ht
        iexact Hr
      iexact HB
    iapply (owesAt_elim m c _ 0 (owed_last m c)); iexact HO

end Cert.KernelIdeal.Paged
-- ==== Proof.KernelIdeal.Launch.lean ====
module

public import proofs.«01_k».proof.Proof.KernelIdeal.Reg

/-!
# The launch

What the launch hands out: each device the position of its barrier, its twelve rights to open a transfer's cell, the tokens of the
duties it pays (its own sends, its peers' arrivals and barriers), and the credit of everything that will come to it.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

local notation "𝕄" => MT nD τ sig Unit (Elt F) ℕ UU ℕ

/-! ## Twelve transfers as three stages of four -/

/-- A family over the twelve transfer semaphores, stage by stage. -/
theorem stages (Φ : Fin 12 → sProp 𝕄) :
    bigSep Finset.univ Φ ⊢ bigSep Finset.univ fun s : Fin 3 => iprop(Φ (semI s 0) ∗ Φ (semI s 1) ∗ Φ (semI s 2) ∗ Φ (semI s 3)) := by
  have e : bigSep Finset.univ Φ = iprop(Φ (semI 0 0) ∗ Φ (semI 0 1) ∗ Φ (semI 0 2) ∗ Φ (semI 0 3) ∗ Φ (semI 1 0) ∗ Φ (semI 1 1) ∗ Φ (semI 1 2) ∗ Φ (semI 1 3)
      ∗ Φ (semI 2 0) ∗ Φ (semI 2 1) ∗ Φ (semI 2 2) ∗ Φ (semI 2 3)) :=
    bigSep_univ_eq_bigSepL [0, 1, 2, 3, 4, 5, 6, 7, 8, 9, 10, 11] (by decide) (by decide) Φ
  rw [e, three]
  iintro ⟨H0, H1, H2, H3, H4, H5, H6, H7, H8, H9, H10, H11⟩
  isplitl [H0 H1 H2 H3]
  · isplitl [H0]; · iexact H0
    isplitl [H1]; · iexact H1
    isplitl [H2]; · iexact H2
    iexact H3
  isplitl [H4 H5 H6 H7]
  · isplitl [H4]; · iexact H4
    isplitl [H5]; · iexact H5
    isplitl [H6]; · iexact H6
    iexact H7
  · isplitl [H8]; · iexact H8
    isplitl [H9]; · iexact H9
    isplitl [H10]; · iexact H10
    iexact H11

/-- The order of two indices does not matter: both are the family over the pairs. -/
theorem flip {α β : Type} [Fintype α] [Fintype β] [DecidableEq α] [DecidableEq β] (Φ : α → β → sProp 𝕄) :
    (bigSep Finset.univ fun a => bigSep Finset.univ fun b => Φ a b) = bigSep Finset.univ fun b => bigSep Finset.univ fun a => Φ a b := by
  have h₁ := bigSep_univ_prod (fun p : α × β => Φ p.1 p.2)
  have h₂ := bigSep_univ_prod (fun p : β × α => Φ p.2 p.1)
  exact h₁.symm.trans ((bigSep_univ_equiv (Equiv.prodComm α β) (fun p : β × α => Φ p.2 p.1)).symm.trans h₂)

/-- A family over the transfers' cells, device by device and stage by stage. -/
theorem cells_stages (Φ : GSem nD τ sig → sProp 𝕄) :
    bigSep xCells Φ ⊢ bigSep Finset.univ fun c : Dev nD => bigSep Finset.univ fun s : Fin 3 =>
      iprop(Φ (xC (semI s 0) c) ∗ Φ (xC (semI s 1) c) ∗ Φ (xC (semI s 2) c) ∗ Φ (xC (semI s 3) c)) := by
  unfold xCells
  rw [bigSep_map, bigSep_univ_prod, flip]
  exact bigSep_mono fun c _ => stages fun j => Φ (xC j c)

/-! ## The tokens -/

def barTok : Dev nD × Fin 3 ↪ GSem nD τ sig × ℕ × Fin 3 :=
  ⟨fun p => (barC p.1, 0, p.2), fun p p' h => Prod.ext (barC_inj (congrArg (fun t => t.1) h)) (congrArg (fun t => t.2.2) h)⟩
def xTok : GSem nD τ sig ↪ GSem nD τ sig × ℕ × Fin 3 := ⟨fun g => (g, 0, 0), fun p p' h => congrArg (fun t => t.1) h⟩

def toks : Finset (GSem nD τ sig × ℕ × Fin 3) := Finset.univ.map barTok ∪ xCells.map xTok

/-- The barrier cells and the transfer cells are disjoint. -/
theorem disj_cells : Disjoint (barCells : Finset (GSem nD τ sig)) xCells := by
  rw [Finset.disjoint_left]
  rintro g h₁ h₂
  unfold barCells at h₁
  unfold xCells at h₂
  obtain ⟨c, -, rfl⟩ := Finset.mem_map.mp h₁
  obtain ⟨p, -, h⟩ := Finset.mem_map.mp h₂
  have e : SemLoc.dma (semN p.1) = (SemLoc.reg barS : SemLoc sig) := congrArg Prod.snd h
  cases e

/-- The tokens of the barrier's duties and those of the transfers' are disjoint. -/
theorem disj_toks : Disjoint (Finset.univ.map barTok : Finset (GSem nD τ sig × ℕ × Fin 3)) (xCells.map xTok) := by
  rw [Finset.disjoint_left]
  rintro g h₁ h₂
  obtain ⟨p, -, rfl⟩ := Finset.mem_map.mp h₁
  obtain ⟨g', hg, h⟩ := Finset.mem_map.mp h₂
  have e : g' = barC p.1 := congrArg (fun t => t.1) h
  subst e
  exact Finset.disjoint_left.mp disj_cells (Finset.mem_map_of_mem barEmb (Finset.mem_univ p.1)) hg

/-- A stage's tokens, each with the device that pays the duty. -/
def stageOut (s : Fin 3) (c : Dev nD) : sProp 𝕄 := iprop(stageToks s c ∗ dutyTok ER (barC (peer s c)) 0 s)

/-- The tokens of a stage, handed to the devices that perform the duties: the arrivals and the barrier's signal go to the peer. -/
theorem around (s : Fin 3) :
    (bigSep Finset.univ fun c : Dev nD => iprop((dutyTok ER (xC (semI s 0) c) 0 (0 : Fin 3) ∗ dutyTok ER (xC (semI s 1) c) 0 (0 : Fin 3)
        ∗ dutyTok ER (xC (semI s 2) c) 0 (0 : Fin 3) ∗ dutyTok ER (xC (semI s 3) c) 0 (0 : Fin 3)) ∗ dutyTok ER (barC c) 0 s) : sProp 𝕄)
      ⊢ bigSep Finset.univ fun c : Dev nD => stageOut s c := by
  unfold stageOut stageToks
  rw [bigSep_sep', bigSep_sep', bigSep_sep', bigSep_sep', bigSep_sep', bigSep_sep', bigSep_sep', bigSep_sep',
    bigSep_univ_equiv (swap s) (fun c : Dev nD => (dutyTok ER (xC (semI s 1) c) 0 (0 : Fin 3) : sProp 𝕄)),
    bigSep_univ_equiv (swap s) (fun c : Dev nD => (dutyTok ER (xC (semI s 3) c) 0 (0 : Fin 3) : sProp 𝕄)),
    bigSep_univ_equiv (swap s) (fun c : Dev nD => (dutyTok ER (barC c) 0 s : sProp 𝕄))]
  exact BI.Entails.refl _

/-- All the tokens, handed out by device and stage. -/
theorem toks_out :
    bigSep toks (fun x => (dutyTok ER x.1 x.2.1 x.2.2 : sProp 𝕄)) ⊢ bigSep Finset.univ fun c : Dev nD => bigSep Finset.univ fun s : Fin 3 => stageOut s c := by
  unfold toks
  rw [show bigSep (Finset.univ.map barTok ∪ xCells.map xTok) (fun x => (dutyTok ER x.1 x.2.1 x.2.2 : sProp 𝕄))
    = iprop(bigSep (Finset.univ.map barTok) (fun x => dutyTok ER x.1 x.2.1 x.2.2) ∗ bigSep (xCells.map xTok) (fun x => dutyTok ER x.1 x.2.1 x.2.2))
    from bigSep_union disj_toks, bigSep_map, bigSep_map, bigSep_univ_prod]
  iintro ⟨HB, HX⟩
  ihave HX' := (show bigSep xCells (fun g => (dutyTok ER (xTok g).1 (xTok g).2.1 (xTok g).2.2 : sProp 𝕄)) ⊢ _
    from cells_stages fun g => (dutyTok ER g 0 (0 : Fin 3) : sProp 𝕄)) $$ HX
  ihave H := (show iprop((bigSep Finset.univ fun c : Dev nD => bigSep Finset.univ fun s : Fin 3 =>
        iprop(dutyTok ER (xC (semI s 0) c) 0 (0 : Fin 3) ∗ dutyTok ER (xC (semI s 1) c) 0 (0 : Fin 3) ∗ dutyTok ER (xC (semI s 2) c) 0 (0 : Fin 3) ∗ dutyTok ER (xC (semI s 3) c) 0 (0 : Fin 3)))
      ∗ (bigSep Finset.univ fun c : Dev nD => bigSep Finset.univ fun s : Fin 3 => dutyTok ER (barC c) 0 s))
      ⊢ (bigSep Finset.univ fun c : Dev nD => bigSep Finset.univ fun s : Fin 3 => stageOut s c : sProp 𝕄) from by
    rw [← bigSep_sep', bigSep_congr (fun c _ => (bigSep_sep' _ _ _).symm), flip, flip (fun c s => stageOut s c)]
    exact bigSep_mono fun s _ => around s) $$ [HX' HB]
  · isplitl [HX']; · iexact HX'
    iexact HB
  iexact H

/-! ## The credits -/

/-- What a stage's due adds up to over the devices, at the cells of the barrier: one each. -/
theorem sum_bar (s : Fin 3) (c : Dev nD) : (∑ d : Dev nD, (tallyAt (barC (peer s d)) () 1 : CellTallies nD τ sig Unit) (barC c) ()) = 1 := by
  refine (Finset.sum_eq_single (peer s c) (fun d _ hd => ?_) fun h => absurd (Finset.mem_univ _) h).trans ?_
  · rw [tallyAt_apply, if_neg]
    rintro ⟨h, -⟩
    exact hd (by rw [barC_inj h, peer_peer])
  · rw [peer_peer, tallyAt_self]

/-- A barrier cell is not a transfer cell. -/
theorem bar_ne (j : Fin 12) (c d : Dev nD) : (barC c : GSem nD τ sig) ≠ xC j d := fun h => by
  have e : (SemLoc.reg barS : SemLoc sig) = SemLoc.dma (semN j) := congrArg Prod.snd h
  cases e

/-- The transfers' dues do not touch the barrier. -/
theorem oweX_bar (n : ℕ) (d c : Dev nD) : oweX n d (barC c) () = 0 := by
  induction n with
  | zero => rfl
  | succ n ih =>
    show (oweX n d (barC c) () + (tallyAt _ () _ : CellTallies nD τ sig Unit) (barC c) ()) + (tallyAt _ () _ : CellTallies nD τ sig Unit) (barC c) () = 0
    rw [ih, tallyAt_apply, tallyAt_apply, if_neg fun h => bar_ne _ _ _ h.1, if_neg fun h => bar_ne _ _ _ h.1]

/-- The devices together owe each barrier three. -/
theorem owed_bar (c : Dev nD) : (∑ d : Dev nD, O₀ d (barC c) ()) = 3 := by
  have e (d : Dev nD) : O₀ d (barC c) () = (((0 + (tallyAt (barC (peer 2 d)) () 1 : CellTallies nD τ sig Unit) (barC c) ())
      + (tallyAt (barC (peer 1 d)) () 1 : CellTallies nD τ sig Unit) (barC c) ()) + (tallyAt (barC (peer 0 d)) () 1 : CellTallies nD τ sig Unit) (barC c) ()) := by
    rw [← oweX_bar 3 d c]; rfl
  rw [Finset.sum_congr rfl fun d _ => e d, Finset.sum_add_distrib, Finset.sum_add_distrib, Finset.sum_add_distrib, sum_bar, sum_bar, sum_bar,
    Finset.sum_const_zero]

/-- What one due of every device adds up to at a transfer's cell: its size where it is that transfer, nothing elsewhere. -/
theorem sum_x (i j : Fin 12) (s : Fin 3) (n : ℕ) (c : Dev nD) :
    (∑ d : Dev nD, (tallyAt (xC i (peer s d)) () n : CellTallies nD τ sig Unit) (xC j c) ()) = if j = i then n else 0 := by
  by_cases h : j = i
  · subst h
    rw [if_pos rfl]
    refine (Finset.sum_eq_single (peer s c) (fun d _ hd => ?_) fun h => absurd (Finset.mem_univ _) h).trans ?_
    · rw [tallyAt_apply, if_neg]
      rintro ⟨h, -⟩
      have e : (j, c) = (j, peer s d) := xC_inj h
      exact hd (by rw [(Prod.mk.inj e).2, peer_peer])
    · rw [peer_peer, tallyAt_self]
  · rw [if_neg h]
    refine Finset.sum_eq_zero fun d _ => ?_
    rw [tallyAt_apply, if_neg]
    rintro ⟨h', -⟩
    have e : (j, c) = (i, peer s d) := xC_inj h'
    exact h (Prod.mk.inj e).1

/-- What is owed at launch at a transfer's cell is the size of the transfer where it is an arrival. -/
theorem owed_x (j : Fin 12) (c : Dev nD) : (∑ d : Dev nD, O₀ d (xC j c) ())
    = (((((if j = semI 2 3 then amt 3 else 0) + (if j = semI 2 1 then amt 1 else 0)) + (if j = semI 1 3 then amt 3 else 0)) + (if j = semI 1 1 then amt 1 else 0))
      + (if j = semI 0 3 then amt 3 else 0)) + (if j = semI 0 1 then amt 1 else 0) := by
  have e (d : Dev nD) : O₀ d (xC j c) () = (((((((((0 + (tallyAt (xC (semI 2 3) (peer 2 d)) () (amt 3) : CellTallies nD τ sig Unit) (xC j c) ())
      + (tallyAt (xC (semI 2 1) (peer 2 d)) () (amt 1) : CellTallies nD τ sig Unit) (xC j c) ())
      + (tallyAt (xC (semI 1 3) (peer 1 d)) () (amt 3) : CellTallies nD τ sig Unit) (xC j c) ())
      + (tallyAt (xC (semI 1 1) (peer 1 d)) () (amt 1) : CellTallies nD τ sig Unit) (xC j c) ())
      + (tallyAt (xC (semI 0 3) (peer 0 d)) () (amt 3) : CellTallies nD τ sig Unit) (xC j c) ())
      + (tallyAt (xC (semI 0 1) (peer 0 d)) () (amt 1) : CellTallies nD τ sig Unit) (xC j c) ())
      + (tallyAt (barC (peer 2 d)) () 1 : CellTallies nD τ sig Unit) (xC j c) ())
      + (tallyAt (barC (peer 1 d)) () 1 : CellTallies nD τ sig Unit) (xC j c) ()) + (tallyAt (barC (peer 0 d)) () 1 : CellTallies nD τ sig Unit) (xC j c) ()) := rfl
  have z (s : Fin 3) : (∑ d : Dev nD, (tallyAt (barC (peer s d)) () 1 : CellTallies nD τ sig Unit) (xC j c) ()) = 0 :=
    Finset.sum_eq_zero fun d _ => by rw [tallyAt_apply, if_neg fun h => bar_ne _ _ _ h.1.symm]
  rw [Finset.sum_congr rfl fun d _ => e d]
  simp only [Finset.sum_add_distrib, sum_x, z, Finset.sum_const_zero, Nat.add_zero, Nat.zero_add]

/-- The devices together owe each arrival its amount. -/
theorem owed_arrives (s : Fin 3) (c : Dev nD) : (∑ d : Dev nD, O₀ d (xC (semI s 1) c) ()) = amt 1 ∧ (∑ d : Dev nD, O₀ d (xC (semI s 3) c) ()) = amt 3 := by
  rw [owed_x, owed_x]
  match s with
  | 0 => exact ⟨by simp [semI], by simp [semI]⟩
  | 1 => exact ⟨by simp [semI], by simp [semI]⟩
  | 2 => exact ⟨by simp [semI], by simp [semI]⟩

/-- The credit that the launch hands out for a cell is what is owed to it. -/
theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def semEmb : Fin 12 ↪ SemLoc sig := ⟨fun j => .dma (semN j), by decide⟩

/-- A device's launch credit: three at the barrier, and what each stage brings it. -/
theorem creds (c : Dev nD) :
    (Pipeline.launchCred O₀ c : sProp 𝕄) ⊢ iprop(cred (tallyAt (barC c) () 3) ∗ bigSep Finset.univ fun s : Fin 3 => stageCreds s c) := by
  unfold Pipeline.launchCred
  rw [bigSep_univ_at _ (SemLoc.reg barS), launch_at (barC c) 3 (owed_bar c)]
  refine sep_mono_right ?_
  refine BIBase.Entails.trans (Q := bigSep (Finset.univ.map semEmb) fun sm => cred (tallyOn ((c : Thread nD τ), sm) (launchCredit (Pipeline.owing O₀) 0 ((c : Thread nD τ), sm)))) ?_ ?_
  · refine bigSep_subset fun sm hsm => ?_
    obtain ⟨j, -, rfl⟩ := Finset.mem_map.mp hsm
    exact Finset.mem_erase.mpr ⟨(fun e => by cases e), Finset.mem_univ _⟩
  rw [bigSep_map]
  refine BIBase.Entails.trans (stages fun j => cred (tallyOn (xC j c) (launchCredit (Pipeline.owing O₀) 0 (xC j c)))) ?_
  refine bigSep_mono fun s _ => ?_
  show _ ⊢ stageCreds s c
  unfold stageCreds
  rw [launch_at (xC (semI s 1) c) (amt 1) (owed_arrives s c).1, launch_at (xC (semI s 3) c) (amt 3) (owed_arrives s c).2]
  iintro ⟨-, H1, -, H3⟩
  isplitl [H1]; · iexact H1
  iexact H3

end Cert.KernelIdeal.Paged
-- ==== Proof.KernelIdeal.Run.lean ====
module

public import proofs.«01_k».proof.Proof.KernelIdeal.Launch

/-!
# The run

`main` from any memory with zero counters: the host operations, then the kernel's region. It terminates, every device's result is
what `outAt` says, the arguments stay and every semaphore's counter is back at zero.
-/

@[expose] public section

set_option synthInstance.maxSize 4096

noncomputable section

namespace Cert.KernelIdeal.Paged

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-- No two staging buffers of a device complete on one semaphore. -/
theorem stageInj : Function.Injective (Pipeline.PerCore.cellOf (nD := nD) (τ := τ) (Pipeline.pinD (pcfgs (F := F)) adm)) :=
  Pipeline.PerCore.cellOf_injective _
    (fun _ p => match p with | 0 => Pipeline.specSemsDistinct_of_nodup _ (semsDistinct 0))
    (fun _ p p' h => absurd (Subsingleton.elim p p') h)

/-- The launch element: the staging cells' part, and the protocol's. -/
def u₀ : UU :=
  (initOf (Pipeline.PerCore.cells (Pipeline.pinD (pcfgs (F := F)) adm) stageInj) (Pipeline.PerCore.launchToks (Pipeline.pinD (pcfgs (F := F)) adm) stageInj),
    launchOf barCells xCells toks)

/-- A resource handed to device `d` alone. -/
def only (d : Dev nD) (X : sProp 𝕄) (c : Dev nD) : sProp 𝕄 := if c = d then X else iprop(emp)

/-- What is handed to one device only, over all devices, is what was handed over. -/
theorem only_all (d : Dev nD) (X : sProp 𝕄) : bigSep Finset.univ (only d X) = X := by
  have h : ∀ c ∈ Finset.univ.erase d, only d X c = (BI.emp : sProp 𝕄) := fun c hc => if_neg (Finset.ne_of_mem_erase hc)
  rw [bigSep_univ_at _ d, bigSep_congr h, BI.bigSep_emp_const, show only d X d = X from if_pos rfl]
  exact BI.equiv_iff.mp sep_emp

def G : Dev nD → sProp 𝕄 := only 0 (BI.own (ER (launchOf barCells xCells toks)))

/-- What a device keeps of the protocol. -/
def linear (c : Dev nD) : sProp 𝕄 :=
  iprop(atPos ER (barC c) 0 ∅ 0
    ∗ (bigSep Finset.univ fun s : Fin 3 => iprop(openTok ER (xC (semI s 0) c) ∗ openTok ER (xC (semI s 1) c) ∗ openTok ER (xC (semI s 2) c) ∗ openTok ER (xC (semI s 3) c)))
    ∗ bigSep Finset.univ fun s : Fin 3 => stageOut s c)

/-- What else it has at launch. -/
def bundle (c : Dev nD) : sProp 𝕄 :=
  iprop(StableHlo.held (c : Thread nD τ) (Pipeline.ucRefs τ sig) (V0 m c) ∗ cred (tallyAt (barC c) () 3)
    ∗ (bigSep Finset.univ fun s : Fin 3 => stageCreds s c) ∗ owes (c : Thread nD τ) (O₀ c) ∅)

def T₀ (c : Dev nD) : sProp 𝕄 := iprop(StableHlo.held (c : Thread nD τ) (Pipeline.ucRefs τ sig) (V0 m c) ∗ carry m c)
def Tₙ (c : Dev nD) : sProp 𝕄 := iprop(StableHlo.held (c : Thread nD τ) (Pipeline.ucRefs τ sig) (Vx m c) ∗ semVal (barC c) 0)

/-- The opening tokens, the duties' tokens and the credits of the three stages, stage by stage. -/
theorem shut_intro (c : Dev nD) :
    iprop((bigSep Finset.univ fun s : Fin 3 => iprop(openTok ER (xC (semI s 0) c) ∗ openTok ER (xC (semI s 1) c) ∗ openTok ER (xC (semI s 2) c) ∗ openTok ER (xC (semI s 3) c)))
      ∗ (bigSep Finset.univ fun s : Fin 3 => stageOut s c) ∗ bigSep Finset.univ fun s : Fin 3 => stageCreds s c)
      ⊢ (bigSep Finset.univ fun s : Fin 3 => stageShut s c : sProp 𝕄) := by
  rw [← bigSep_sep', ← bigSep_sep']
  refine bigSep_mono fun s _ => ?_
  show _ ⊢ stageShut s c
  unfold stageShut stageOut
  iintro ⟨HO, ⟨HT, HB⟩, HC⟩
  isplitl [HO]; · iexact HO
  isplitl [HT]; · iexact HT
  isplitl [HC]; · iexact HC
  iexact HB

/-- What a device's thread starts with, out of the launch's records and the device's own share. -/
theorem T₀_intro (K : GSem nD τ sig → ℕ) (c : Dev nD) : iprop(records (X m) K ∗ (linear c ∗ bundle m c)) ⊢ T₀ m c := by
  unfold linear bundle T₀ carry launched
  iintro ⟨#HR, ⟨Hat, Ho, Ht⟩, Hh, H3, Hc, HO⟩
  isplitl [Hh]; · iexact Hh
  isplitr [HO]
  · iexists K
    isplitr; · iexact HR
    isplitl [Hat]; · iexact Hat
    isplitl [H3]; · iexact H3
    iapply (shut_intro (F := F) c)
    isplitl [Ho]; · iexact Ho
    isplitl [Ht]; · iexact Ht
    iexact Hc
  iexists ∅; iexact HO

/-- Two families over the devices, as a family of pairs. -/
theorem pair (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm
/-- A family of pairs over the devices, as two families. -/
theorem unpair (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

/-- The one unscoped semaphore is the barrier. -/
theorem sems0 (c : Dev nD) : (unscopedSems0 c : sProp 𝕄) = semVal (barC c) 0 := by
  unfold unscopedSems0
  rw [show (Finset.univ.filter fun sm : SemLoc sig => ¬ sm.isScoped .tc = true) = {SemLoc.reg barS} from by decide, bigSep_singleton]

/-- From what the launch deals, every device's first state. -/
theorem init (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c.tc : Thread nD τ).loc b)) = StableHlo.held (c : Thread nD τ) (Pipeline.ucRefs τ sig) (V0 m c)
      from Pipeline.unscopedBufs_held c (V0 m c), sems0]
    unfold bundle
    iintro ⟨Hh, Hs, HO, Hc, -, HG⟩
    ihave Hc' := (creds (F := F) c) $$ Hc
    icases Hc' with ⟨H3, Hx⟩
    isplitl [Hh H3 HO Hx]
    · isplitl [Hh]; · iexact Hh
      isplitl [H3]; · iexact H3
      isplitl [Hx]; · iexact Hx
      iexact HO
    isplitl [Hs]; · iexact Hs
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (unpair _ _) $$ H'; icases H2 with ⟨HB, H3⟩
  ihave H4 := (unpair _ _) $$ H3; icases H4 with ⟨Hv, HG⟩
  ihave Hu := (show bigSep Finset.univ (G (F := F)) ⊢ BI.own (ER (launchOf barCells xCells toks)) from
    Entails.of_eq (only_all (F := F) 0 (BI.own (ER (launchOf barCells xCells toks))))) $$ HG
  imod (Rounds.fund_launch ER (sched (X m)) disj_cells (fun g _ h => h) toks) $$ [Hv Hu] with ⟨%K, -, #Hinv, #Hr, Hat, Hopen, Htok⟩
  · isplitl [Hv]
    · iapply hv $$ Hv
    · iexact Hu
  imodintro
  iapply (bigSep_with_persistent (R := records (X m) K) (Φ := fun c => iprop(linear c ∗ bundle m c)) fun c _ => T₀_intro m K c)
  isplitr
  · unfold records
    isplitr; · iexact Hinv
    iexact Hr
  iapply (pair _ _)
  isplitr [HB]
  · unfold linear
    iapply (pair _ _); isplitl [Hat]; · iapply hat $$ Hat
    iapply (pair _ _); isplitl [Hopen]; · iapply (cells_stages fun g => (openTok ER g : sProp 𝕄)) $$ Hopen
    iapply (toks_out (F := F)) $$ Htok
  · iexact HB

/-- `main` as the launch theorem's segments. -/
def segs (c : Dev nD) : List (Pipeline.PerCore.Seg (pcfgs (F := F)) (adm (F := F)) (pdats m) () (defs₀ (F := F)) 𝒱₀ L lv) :=
  [.host (seg0 m 𝒱₀ L lv (fun _ => carry m) c), .region (reg0 m)]

/-- A semaphore that no scope holds is the barrier's. -/
theorem unscoped_bar : ∀ sm : SemLoc sig, sm.isScoped .tc = false → sm = .reg barS := by decide

/-- What a final memory holds on device `c`. -/
def Fine (c : Dev nD) (s : MemSt nD τ sig (Elt F)) : Prop :=
  (s.mem ((c.tc : Thread nD τ).loc main_v13) = outAt (X m) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)) ∧ s.sem (barC c) = 0

/-- A buffer that neither a host operation nor the region writes ends as it began. -/
theorem Vx_kept (c : Dev nD) (r : Ref sig .tc) (h : r ≠ main_v13) (h' : r ∉ hostOps0_W) : Vx m c r = m ((c.tc : Thread nD τ).loc r) :=
  (Vx_of m c r h).trans (V1_of m c r h')

/-- What a device's thread ends with says that its result is the kernel's value and that its arguments are unchanged. -/
theorem hfin (c : Dev nD) (s' : Phys nD τ sig (Elt F)) : iprop(Tₙ m c ∗ SI s') ⊢ (|={Set.univ}=> iprop(⌜Fine m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (Vx m c) s') $$ [Hh HSI]
  · isplitl [Hh] <;> iassumption
  icases Hr with ⟨%h, HSI⟩
  imodintro
  isplitr
  · ipureintro
    have at' (r : Ref sig .tc) (hr : ¬ (Proc.tc.devRef r : DevRef τ sig).isScoped = true) := h (Proc.devRef .tc r) (Finset.mem_filter.mpr ⟨StableHlo.devRef_mem_tcRefs r, hr⟩)
    refine ⟨⟨(at' main_v13 (by decide)).trans (Vx_out m c), (at' main_arg0 (by decide)).trans (Vx_kept m c _ (by decide) (by decide)),
      (at' main_arg1 (by decide)).trans (Vx_kept m c _ (by decide) (by decide)), (at' main_arg2 (by decide)).trans (Vx_kept m c _ (by decide) (by decide)),
      (at' main_arg3 (by decide)).trans (Vx_kept m c _ (by decide) (by decide)), (at' main_arg4 (by decide)).trans (Vx_kept m c _ (by decide) (by decide))⟩, ?_⟩
    simpa using hb
  iexact HSI

set_option backward.isDefEq.respectTransparency.types false in
/-- THE RUN: every weakly fair execution of `main` on the eight devices terminates with `outAt` in every device's result, its five
    arguments as launched, and every counter of the machine at zero. -/
theorem run_main (ρ : Dev nD → PrngReg) : θ_run defs (onTc (τ := τ) (main (F := F))) ⟨m, fun _ => 0, ρ⟩ (fun r => (∀ c : Dev nD,
      r.2.mem ((c.tc : Thread nD τ).loc main_v13) = outAt (X m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.PerCore.θ_run_regions_kit_sems (pcfgs (F := F)) adm (pdats m) () stageInj EP defs₀ 𝒱₀ L lv m ρ main (segs m)
    (fun c Q => by
      rewrite [main_chain c, Pipeline.PerCore.Seg.run_eq_chain,
        show (segs m c).map Pipeline.PerCore.Seg.prog = [StableHlo.seq (hostOps0 c), Prog.lift (.customCall (Pipeline.entry 0) ())] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [only_all]; iexact HX)
    (T₀ := T₀ m) (Tₙ := Tₙ m)
    (hch := fun c => ⟨.rfl, .rfl, .rfl⟩)
    (hinit := init m ρ) (QY := Fine m) (hfin := hfin m)
    (hQ := fun s h hs => ⟨fun c => (h c).1, sem_eq_zero hs fun c sm hsm => by
      rw [unscoped_bar sm hsm]; exact (h c).2⟩)

end Cert.KernelIdeal.Paged
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run

/-!
# The frames

Each program terminates with its arguments as launched and every counter at zero.
-/

@[expose] public section

noncomputable section

namespace Cert.Proof

open Idealize.ShloMosaic Idealize.SL.Sem Idealize.ShloMosaic.TcCoe

/-- The kernel, on floats as they are. -/
theorem frame_kernel : Cert.quiescent_Kernel := fun m g _ =>
  (θ_run Cert.Kernel.defs _ _).mono (fun _ h => ⟨fun c => (h.1 c).2, h.2⟩) (Cert.Kernel.Paged.run_main m g)

/-- The kernel, on exact arithmetic. -/
theorem frame_ideal : Cert.quiescent_KernelIdeal := fun m g _ =>
  (θ_run Cert.KernelIdeal.defs _ _).mono (fun _ h => ⟨fun c => (h.1 c).2, h.2⟩) (Cert.KernelIdeal.Paged.run_main m g)

/-- The reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Softmax.lean ====
module

public import Idealize.ShloMosaic.Lib.Pointwise
public import Mathlib.Data.EReal.Operations
public import Mathlib.Data.EReal.Inv
public import Mathlib.Logic.Equiv.Fin.Basic

/-!
# Sums of weighted exponentials

The extended-real arithmetic of a softmax taken in parts.  A part is kept as its maximum `m`, and its sums scaled by
`exp (-m)`; two parts are mixed by rescaling both to the larger maximum (`mix`); at the end the scale cancels (`ratio`).
A page that the block table names several times is summed once, with its count for a weight (`sum_pages`).
-/

@[expose] public section

noncomputable section

open scoped BigOperators

namespace Cert.Softmax

open Idealize.ShloMosaic

/-! ## Real factors -/

/-- A nonnegative real factor goes inside a sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-- A sum of reals is a real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real. -/
theorem exp_coe (x : ℝ) : Ideal.exp (x : EReal) = (Real.exp x : EReal) := rfl

/-- The exponential of a difference is the exponential, scaled. -/
theorem exp_sub (s m : ℝ) : Ideal.exp ((s : EReal) - (m : EReal)) = (Real.exp (-m) : EReal) * (Real.exp s : EReal) := by
  rw [← EReal.coe_sub, exp_coe, ← EReal.coe_mul, ← Real.exp_add, neg_add_eq_sub]

/-! ## Maxima -/

/-- The larger of two reals is the real that is larger. -/
theorem max_coe (x y : ℝ) : max (x : EReal) (y : EReal) = ((max x y : ℝ) : EReal) :=
  (Monotone.map_max (f := fun x : ℝ => (x : EReal)) EReal.coe_strictMono.monotone).symm

/-- A maximum, from minus infinity, of values below plus infinity one of which is a real, is a real. -/
theorem fold_max_real {ι : Type*} (s : Finset ι) (f : ι → EReal) (htop : ∀ i ∈ s, f i ≠ ⊤) (hreal : ∃ i ∈ s, f i ≠ ⊥) :
    ∃ m : ℝ, Finset.fold max (⊥ : EReal) f s = (m : EReal) := by
  have h : Finset.fold max (⊥ : EReal) f s ≠ ⊤ := by
    intro e
    have h1 : (⊤ : EReal) ≤ Finset.fold max ⊥ f s := e.ge
    rcases (Finset.le_fold_max ⊤).1 h1 with h2 | ⟨i, hi, h2⟩
    · exact absurd h2 (by simp)
    · exact htop i hi (top_le_iff.1 h2)
  have h' : Finset.fold max (⊥ : EReal) f s ≠ ⊥ := by
    intro e
    obtain ⟨i, hi, hne⟩ := hreal
    have h1 : f i ≤ Finset.fold max ⊥ f s := (Finset.le_fold_max _).2 (Or.inr ⟨i, hi, le_rfl⟩)
    rw [e] at h1
    exact hne (le_bot_iff.1 h1)
  exact ⟨_, (EReal.coe_toReal h h').symm⟩

/-! ## Mixing two parts, and the ratio at the end -/

/-- Two scaled sums mixed: each scaled by the exponential of its maximum less the larger one, and added, they are the
    sum of the two, scaled by the larger. -/
theorem mix (m m' : ℝ) (a a' : EReal) :
    (Real.exp (-m) : EReal) * a * Ideal.exp ((m : EReal) - max (m : EReal) (m' : EReal))
      + (Real.exp (-m') : EReal) * a' * Ideal.exp ((m' : EReal) - max (m : EReal) (m' : EReal))
      = (Real.exp (-max m m') : EReal) * (a + a') := by
  have key (k : ℝ) (x : EReal) :
      (Real.exp (-k) : EReal) * x * Ideal.exp ((k : EReal) - max (m : EReal) (m' : EReal)) = (Real.exp (-max m m') : EReal) * x := by
    rw [max_coe, exp_sub, mul_right_comm, ← EReal.coe_mul, ← EReal.coe_mul, mul_comm (Real.exp (-k)), mul_assoc, ← Real.exp_add,
      add_neg_cancel, Real.exp_zero, mul_one]
  rw [key, key, EReal.left_distrib_of_nonneg_of_ne_top (EReal.coe_nonneg.2 (Real.exp_pos _).le) (EReal.coe_ne_top _)]

/-- A quotient by a positive real. -/
theorem div_coe (a : EReal) {l : ℝ} (hl : 0 < l) : Ideal.div a (l : EReal) = a * ((l⁻¹ : ℝ) : EReal) := by
  rw [Ideal.div, if_neg (by exact_mod_cast hl.ne'), ← EReal.coe_inv]

/-- The scale of two sums cancels in their quotient. -/
theorem ratio (m : ℝ) (a : EReal) {l : ℝ} (hl : 0 < l) :
    Ideal.div ((Real.exp (-m) : EReal) * a) ((Real.exp (-m) : EReal) * (l : EReal)) = a * ((l⁻¹ : ℝ) : EReal) := by
  rw [← EReal.coe_mul, div_coe _ (mul_pos (Real.exp_pos _) hl), mul_right_comm, ← EReal.coe_mul, mul_inv, ← mul_assoc,
    mul_inv_cancel₀ (Real.exp_pos _).ne', one_mul, mul_comm]

/-! ## Counting pages -/

/-- A value taken once for every case that holds is the number of them times the value. -/
theorem count_mul {ι : Type*} [Fintype ι] (P : ι → Prop) [DecidablePred P] (y : EReal) :
    (∑ j, if P j then (1 : EReal) else 0) * y = ∑ j, if P j then y else 0 := by
  rw [Finset.sum_boole, ← Finset.sum_filter, Finset.sum_const, EReal.nsmul_eq_mul]

/-- A count is a nonnegative real. -/
theorem count_real {ι : Type*} [Fintype ι] (P : ι → Prop) [DecidablePred P] :
    (∑ j, if P j then (1 : EReal) else 0) = (((Finset.univ.filter P).card : ℝ) : EReal) := by
  rw [Finset.sum_boole, EReal.coe_natCast]

/-- The pages lie 64 on each of 8 devices, a page of 32 rows; summed over devices and rows, each page as often as one of
    `n` cases names it, is summed over the cases that hold and the rows of the page each names. -/
theorem sum_pages {n : ℕ} (live : Fin n → Prop) [DecidablePred live] (pg : Fin n → Fin 512) (f : Fin 512 → Fin 32 → EReal)
    (w : Fin 8 → Fin 2048 → EReal)
    (hw : ∀ c x, w c x = ∑ j, if live j ∧ (pg j).val = 64 * c.val + x.val / 32 then (1 : EReal) else 0) :
    ∑ c : Fin 8, ∑ x : Fin 2048, w c x * f ⟨64 * c.val + x.val / 32, by omega⟩ ⟨x.val % 32, by omega⟩
      = ∑ j, ∑ r : Fin 32, if live j then f (pg j) r else 0 := by
  have h1 (c : Fin 8) (x : Fin 2048) : w c x * f ⟨64 * c.val + x.val / 32, by omega⟩ ⟨x.val % 32, by omega⟩
      = ∑ j, if live j ∧ (pg j).val = 64 * c.val + x.val / 32 then f (pg j) ⟨x.val % 32, by omega⟩ else 0 := by
    rw [hw, count_mul]
    refine Finset.sum_congr rfl fun j _ => ?_
    by_cases h : live j ∧ (pg j).val = 64 * c.val + x.val / 32
    · rw [if_pos h, if_pos h]; exact congrArg (fun P => f P _) (Fin.ext h.2.symm)
    · rw [if_neg h, if_neg h]
  have h2 (c : Fin 8) : ∑ x : Fin 2048, w c x * f ⟨64 * c.val + x.val / 32, by omega⟩ ⟨x.val % 32, by omega⟩
      = ∑ j, ∑ p : Fin 64, ∑ r : Fin 32, if live j ∧ (pg j).val = 64 * c.val + p.val then f (pg j) r else 0 := by
    rw [Finset.sum_congr rfl fun x _ => h1 c x, Finset.sum_comm]
    refine Finset.sum_congr rfl fun j _ => ?_
    rw [Idealize.ShloMosaic.Fin.sum_univ_tiles 64 32 rfl]
    refine Finset.sum_congr rfl fun p _ => Finset.sum_congr rfl fun r _ => ?_
    have e1 : (p.val * 32 + r.val) / 32 = p.val := by omega
    have e2 : (p.val * 32 + r.val) % 32 = r.val := by omega
    simp only [e1, e2]
  rw [Finset.sum_congr rfl fun c _ => h2 c, Finset.sum_comm]
  refine Finset.sum_congr rfl fun j _ => ?_
  by_cases hl : live j
  · have hp : (pg j).val < 512 := (pg j).isLt
    rw [Finset.sum_eq_single (⟨(pg j).val / 64, by omega⟩ : Fin 8), Finset.sum_eq_single (⟨(pg j).val % 64, by omega⟩ : Fin 64)]
    · refine Finset.sum_congr rfl fun r _ => ?_
      rw [if_pos ⟨hl, by show _ = 64 * ((pg j).val / 64) + (pg j).val % 64; omega⟩, if_pos hl]
    · intro p _ hne
      refine Finset.sum_eq_zero fun r _ => if_neg fun h => hne (Fin.ext ?_)
      have := h.2
      simp only at this ⊢
      omega
    · simp
    · intro c _ hne
      refine Finset.sum_eq_zero fun p _ => Finset.sum_eq_zero fun r _ => if_neg fun h => hne (Fin.ext ?_)
      have := h.2
      simp only at this ⊢
      omega
    · simp
  · simp [hl]

/-! ## A softmax over the live cases' pages -/

section Attend

variable {n : ℕ} (live : Fin n → Prop) [DecidablePred live] (pg : Fin n → Fin 512)

/-- The sum of the exponentials of the live rows' scores. -/
def total (s : Fin 512 → Fin 32 → ℝ) : ℝ := ∑ j, ∑ r : Fin 32, if live j then Real.exp (s (pg j) r) else 0
/-- The live rows' values, weighted by the exponentials of their scores and summed. -/
def weighted (s : Fin 512 → Fin 32 → ℝ) (v : Fin 512 → Fin 32 → EReal) : EReal :=
  ∑ j, ∑ r : Fin 32, if live j then (Real.exp (s (pg j) r) : EReal) * v (pg j) r else 0
/-- The attention's value: the weighted sum over the total. -/
def attend (s : Fin 512 → Fin 32 → ℝ) (v : Fin 512 → Fin 32 → EReal) : EReal :=
  weighted live pg s v * (((total live pg s)⁻¹ : ℝ) : EReal)

/-- With a live case the total is positive. -/
theorem total_pos (s : Fin 512 → Fin 32 → ℝ) (j : Fin n) (hj : live j) : 0 < total live pg s := by
  have h0 (i : Fin n) (r : Fin 32) : 0 ≤ if live i then Real.exp (s (pg i) r) else 0 := by
    split_ifs; exacts [(Real.exp_pos _).le, le_rfl]
  refine Finset.sum_pos' (fun i _ => Finset.sum_nonneg fun r _ => h0 i r) ⟨j, Finset.mem_univ _, ?_⟩
  refine Finset.sum_pos' (fun r _ => h0 j r) ⟨0, Finset.mem_univ _, ?_⟩
  rw [if_pos hj]; exact Real.exp_pos _

/-- The total as an extended real. -/
theorem total_coe (s : Fin 512 → Fin 32 → ℝ) :
    (total live pg s : EReal) = ∑ j, ∑ r : Fin 32, if live j then (Real.exp (s (pg j) r) : EReal) else 0 := by
  rw [total, coe_sum]
  refine Finset.sum_congr rfl fun j _ => ?_
  rw [coe_sum]
  refine Finset.sum_congr rfl fun r _ => ?_
  split_ifs <;> rfl

variable {N : ℕ} (hN : n * 32 = N)
include hN

/-- THE WHOLE SOFTMAX: rows in one line, the dead ones at minus infinity, the exponentials of the scores less their
    maximum each divided by their sum, and the values summed with those weights. -/
theorem whole (s : Fin 512 → Fin 32 → ℝ) (v : Fin 512 → Fin 32 → EReal) (s' v' : Fin N → EReal)
    (hs : ∀ x : Fin N, s' x = if live ⟨x.val / 32, by omega⟩ then (s (pg ⟨x.val / 32, by omega⟩) ⟨x.val % 32, by omega⟩ : EReal) else ⊥)
    (hv : ∀ x : Fin N, live ⟨x.val / 32, by omega⟩ → v' x = v (pg ⟨x.val / 32, by omega⟩) ⟨x.val % 32, by omega⟩)
    (j : Fin n) (hj : live j) :
    ∑ x, Ideal.div (Ideal.exp (s' x - Finset.fold max ⊥ s' Finset.univ)) (∑ y, Ideal.exp (s' y - Finset.fold max ⊥ s' Finset.univ)) * v' x
      = attend live pg s v := by
  obtain ⟨m, hm⟩ : ∃ m : ℝ, Finset.fold max (⊥ : EReal) s' Finset.univ = (m : EReal) := by
    refine fold_max_real _ _ (fun x _ => ?_) ⟨⟨j.val * 32, by omega⟩, Finset.mem_univ _, ?_⟩
    · rw [hs]; split_ifs; exacts [EReal.coe_ne_top _, bot_ne_top]
    · have e : (⟨j.val * 32 / 32, by omega⟩ : Fin n) = j := Fin.ext (by simp)
      rw [hs, if_pos (by rw [e]; exact hj)]; exact EReal.coe_ne_bot _
  have he (x : Fin N) : Ideal.exp (s' x - (m : EReal)) = (Real.exp (-m) : EReal) *
      ((if live ⟨x.val / 32, by omega⟩ then Real.exp (s (pg ⟨x.val / 32, by omega⟩) ⟨x.val % 32, by omega⟩) else 0 : ℝ) : EReal) := by
    rw [hs]
    split_ifs
    · exact exp_sub _ _
    · rw [EReal.bot_sub, EReal.coe_zero, mul_zero]; rfl
  have rows (f : Fin N → EReal) (g : Fin n → Fin 32 → EReal) (h : ∀ x : Fin N, f x = g ⟨x.val / 32, by omega⟩ ⟨x.val % 32, by omega⟩) :
      ∑ x, f x = ∑ i, ∑ r, g i r := by
    rw [Idealize.ShloMosaic.Fin.sum_univ_tiles n 32 hN]
    refine Finset.sum_congr rfl fun i _ => Finset.sum_congr rfl fun r _ => ?_
    rw [h]
    exact congrArg₂ g (Fin.ext (by show (i.val * 32 + r.val) / 32 = i.val; omega)) (Fin.ext (by show (i.val * 32 + r.val) % 32 = r.val; omega))
  have hl : ∑ y, Ideal.exp (s' y - (m : EReal)) = (Real.exp (-m) : EReal) * (total live pg s : EReal) := by
    rw [Finset.sum_congr rfl fun x _ => he x, ← coe_mul_sum _ (Real.exp_pos _).le]
    refine congrArg _ ((rows _ (fun i r => if live i then (Real.exp (s (pg i) r) : EReal) else 0) fun x => ?_).trans (total_coe live pg s).symm)
    split_ifs <;> rfl
  have hp := total_pos live pg s j hj
  rw [hm, hl, attend, weighted, mul_comm (∑ j, _ : EReal), coe_mul_sum _ (inv_nonneg.2 hp.le)]
  refine (rows _ (fun i r => if live i then (((total live pg s)⁻¹ : ℝ) : EReal) * ((Real.exp (s (pg i) r) : EReal) * v (pg i) r) else 0) fun x => ?_).trans
    (Finset.sum_congr rfl fun i _ => ?_)
  · rw [he, ratio m _ hp]
    split_ifs with h
    · rw [hv x h, mul_comm (Real.exp _ : EReal), mul_assoc]
    · simp
  · rw [coe_mul_sum _ (inv_nonneg.2 hp.le)]
    refine Finset.sum_congr rfl fun r _ => ?_
    split_ifs
    · rfl
    · rw [mul_zero]

end Attend

/-! ## One device's part -/

/-- A row's weighted exponential: a row no case names has weight zero, whatever is put for its score. -/
theorem weigh (k : ℕ) (s m neg : ℝ) :
    ((k : ℝ) : EReal) * Ideal.exp (Scalar.select (Ideal.cmp .ogt ((k : ℝ) : EReal) 0) (s : EReal) (neg : EReal) - (m : EReal))
      = (Real.exp (-m) : EReal) * (((k : ℝ) : EReal) * (Real.exp s : EReal)) := by
  rcases Nat.eq_zero_or_pos k with rfl | hk
  · simp
  · have h : Ideal.cmp .ogt ((k : ℝ) : EReal) 0 = 1#1 := by
      have : (0 : EReal) < ((k : ℝ) : EReal) := by exact_mod_cast hk
      simp [Ideal.cmp, hk]
    rw [h]
    show _ * Ideal.exp ((s : EReal) - (m : EReal)) = _
    rw [exp_sub, mul_left_comm]

end Cert.Softmax
-- ==== Proof.Spec.lean ====
module

public import proofs.«01_k».proof.Proof.Softmax

/-!
# The attention, as numbers

For a request `b` and a head `h`: which entries of the block table are live, the page each names, the score of every row of
every page, and the softmax-weighted sum of the values over the live pages' rows (`spec`).  `Proper` is what is asked of
the arguments: finite queries and keys, a positive length, and live entries of the block table that name a page.
-/

@[expose] public section

noncomputable section

open scoped BigOperators

namespace Cert.Softmax

open Idealize.ShloMosaic Idealize.ShloMosaic.Pointwise

/-- The queries. -/
abbrev Queries := (⟨4, ![32, 1, 16, 128]⟩ : Shape).Idx → EReal
/-- All the pages of the keys or of the values. -/
abbrev Pages := (⟨4, ![512, 32, 16, 128]⟩ : Shape).Idx → EReal
/-- The block table. -/
abbrev Blocks := (⟨2, ![32, 256]⟩ : Shape).Idx → BitVec 32
/-- The lengths. -/
abbrev Lengths := (⟨1, ![32]⟩ : Shape).Idx → BitVec 32

/-- Entry `j` of request `b`'s block table is live: it lies before the request's length. -/
abbrev Live (ln : Lengths) (b : Fin 32) (j : Fin 256) : Prop := (j.val : ℤ) < (ln (ix1 b)).toInt

/-- The page that entry names. -/
def page (bt : Blocks) (b : Fin 32) (j : Fin 256) : Fin 512 := ⟨min (bt (ix2 b j)).toInt.toNat 511, by omega⟩

/-- The score of row `r` of page `P`, as an extended real. -/
def scoreE (Q : Queries) (K : Pages) (b : Fin 32) (h : Fin 16) (P : Fin 512) (r : Fin 32) : EReal :=
  (∑ x : Fin 128, Q (ix4 b 0 h x) * K (ix4 P r h x)) * Ideal.ofBits .f32 0x3DB504F3#32
/-- The score as a real. -/
def score (Q : Queries) (K : Pages) (b : Fin 32) (h : Fin 16) (P : Fin 512) (r : Fin 32) : ℝ := (scoreE Q K b h P r).toReal

/-- The attention's value at request `b`, head `h`, column `d`. -/
def spec (Q : Queries) (K V : Pages) (bt : Blocks) (ln : Lengths) (b : Fin 32) (h : Fin 16) (d : Fin 128) : EReal :=
  attend (Live ln b) (page bt b) (score Q K b h) fun P r => V (ix4 P r h d)

/-- What is asked of the arguments. -/
structure Proper (Q : Queries) (K : Pages) (bt : Blocks) (ln : Lengths) : Prop where
  /-- The queries are finite. -/
  finQ : ∀ i, ∃ x : ℝ, Q i = (x : EReal)
  /-- The keys are finite. -/
  finK : ∀ i, ∃ x : ℝ, K i = (x : EReal)
  /-- The lengths are positive. -/
  pos : ∀ b, 0 < (ln (ix1 b)).toInt
  /-- The live entries of the block table name pages. -/
  inRange : ∀ b j, Live ln b j → 0 ≤ (bt (ix2 b j)).toInt ∧ (bt (ix2 b j)).toInt < 512

/-- The scale is a real. -/
theorem scale_real : ∃ c : ℝ, Ideal.ofBits .f32 0x3DB504F3#32 = (c : EReal) := by
  refine ⟨_, (EReal.coe_toReal ?_ ?_).symm⟩ <;> simp [Ideal.ofBits, Ideal.ieee, -EReal.coe_mul]

/-- The masked score is a real. -/
theorem mask_real : ∃ c : ℝ, Ideal.ofBits .f32 0xF149F2CA#32 = (c : EReal) := by
  refine ⟨_, (EReal.coe_toReal ?_ ?_).symm⟩ <;> simp [Ideal.ofBits, Ideal.ieee, -EReal.coe_mul]

/-- The word of minus infinity. -/
theorem bot_word : Ideal.ofBits .f32 0xFF800000#32 = ⊥ := by simp [Ideal.ofBits, Ideal.ieee]

/-- With finite queries and keys every score is a real. -/
theorem scoreE_eq {Q : Queries} {K : Pages} (hq : ∀ i, ∃ x : ℝ, Q i = (x : EReal)) (hk : ∀ i, ∃ x : ℝ, K i = (x : EReal))
    (b : Fin 32) (h : Fin 16) (P : Fin 512) (r : Fin 32) : scoreE Q K b h P r = (score Q K b h P r : EReal) := by
  choose fq hfq using hq
  choose fk hfk using hk
  obtain ⟨c, hc⟩ := scale_real
  have e : scoreE Q K b h P r = (((∑ x : Fin 128, fq (ix4 b 0 h x) * fk (ix4 P r h x)) * c : ℝ) : EReal) := by
    rw [scoreE, hc, EReal.coe_mul, coe_sum]
    simp only [hfq, hfk, EReal.coe_mul]
  rw [score, e, EReal.toReal_coe]

/-- An entry of the block table, its position compared with the length. -/
theorem live_word (ln : Lengths) (b : Fin 32) (j : Fin 256) :
    IntOp.cmpi .slt (BitVec.ofNat 32 j.val) (ln (ix1 b)) = BitVec.ofBool (decide (Live ln b j)) := by
  have hj : (BitVec.ofNat 32 j.val).toInt = (j.val : ℤ) := by
    have := j.isLt
    rw [BitVec.toInt_eq_toNat_of_lt] <;> simp <;> omega
  show BitVec.ofBool (BitVec.slt _ _) = _
  congr 1
  rw [BitVec.slt_eq_decide, hj]

/-- A choice by a decided bit. -/
theorem select_ofBool {α : Type} (P : Prop) [Decidable P] (x y : α) :
    Scalar.select (BitVec.ofBool (decide P)) x y = if P then x else y := by
  by_cases h : P <;> simp [h, Scalar.select]

/-- The first entry of a block table is live. -/
theorem live_first {ln : Lengths} (hln : ∀ b, 0 < (ln (ix1 b)).toInt) (b : Fin 32) : Live ln b 0 := by
  show ((0 : ℕ) : ℤ) < _; exact_mod_cast hln b

end Cert.Softmax
-- ==== Proof.KernelIdeal.Reads.lean ====
module

public import proofs.«01_k».proof.Proof.KernelIdeal.Values
public import proofs.«01_k».proof.Proof.Spec

/-!
# The kernel's arithmetic, read at an index

Each value that the kernel computes, at one index, as extended-real arithmetic of the values it is computed from.
-/

@[expose] public section

noncomputable section

namespace Cert.KernelIdeal.Paged

open Idealize.ShloMosaic Cert.KernelIdeal.Gen Idealize.ShloMosaic.Pointwise Cert.Softmax

/-! ## Windows and pieces -/

/-- The load of a head of the queries, at an index. -/
theorem qAt_at (x : Vec Ideal S32x1x16x128 .bf16) (h : Fin 16) (b : Fin 32) (y : Fin 128) :
    qAt x h (ix4 b 0 0 y) = x (ix4 b 0 h y) := by
  unfold qAt VecWindow.window
  refine congrArg x (funext fun a => Fin.ext ?_)
  rw [Rect.emb_apply]
  match a with
  | 0 => exact (show 0 + 1 * b.val = b.val by omega)
  | 1 => rfl
  | 2 => exact (show h.val + 1 * 0 = h.val by omega)
  | 3 => exact (show 0 + 1 * y.val = y.val by omega)

/-- The load of a head of the keys or of the values, at an index. -/
theorem kAt_at (x : Vec Ideal S64x32x16x128 .bf16) (h : Fin 16) (p : Fin 64) (r : Fin 32) (y : Fin 128) :
    kAt x h (ix4 p r 0 y) = x (ix4 p r h y) := by
  unfold kAt VecWindow.window
  refine congrArg x (funext fun a => Fin.ext ?_)
  rw [Rect.emb_apply]
  match a with
  | 0 => exact (show 0 + 1 * p.val = p.val by omega)
  | 1 => exact (show 0 + 1 * r.val = r.val by omega)
  | 2 => exact (show h.val + 1 * 0 = h.val by omega)
  | 3 => exact (show 0 + 1 * y.val = y.val by omega)

/-- The row of the accumulator that holds head `h` of request `b`. -/
abbrev row (h : Fin 16) (b : Fin 32) : Fin 512 := ⟨32 * h.val + b.val, by omega⟩

/-- The load of a head's rows of the accumulator, at an index. -/
theorem aAt_at (x : Vec Ideal S512x128 .f32) (h : Fin 16) (b : Fin 32) (d : Fin 128) : aAt x h (ix2 b d) = x (ix2 (row h b) d) := by
  unfold aAt VecWindow.window
  refine congrArg x (funext fun a => Fin.ext ?_)
  rw [Rect.emb_apply]
  match a with
  | 0 => exact (show 32 * h.val + 1 * b.val = 32 * h.val + b.val by omega)
  | 1 => exact (show 0 + 1 * d.val = d.val by omega)

/-- The load of a statistic, at an index. -/
theorem sAt_at (x : Vec Ideal S2x32x16 .f32) (j : Fin 2) (b : Fin 32) (h : Fin 16) : sAt x j (ix3 0 b h) = x (ix3 j b h) := by
  unfold sAt VecWindow.window
  refine congrArg x (funext fun a => Fin.ext ?_)
  rw [Rect.emb_apply]
  match a with
  | 0 => exact (show j.val + 1 * 0 = j.val by omega)
  | 1 => exact (show 0 + 1 * b.val = b.val by omega)
  | 2 => exact (show 0 + 1 * h.val = h.val by omega)

/-- The load of a peer's statistic, at an index. -/
theorem rsAt_at (x : Vec Ideal S2x32x16 .f32) (s : Fin 3) (j : Fin 2) (b : Fin 32) (h : Fin 16) :
    rsAt (landS x) s j (ix4 0 0 b h) = x (ix3 j b h) := by
  unfold rsAt VecWindow.window landS
  refine congrArg x (funext fun a => Fin.ext ?_)
  match a with
  | 0 => exact (Rect.emb_apply ..).trans (show j.val + 1 * 0 = j.val by omega)
  | 1 => exact (Rect.emb_apply ..).trans (show 0 + 1 * b.val = b.val by omega)
  | 2 => exact (Rect.emb_apply ..).trans (show 0 + 1 * h.val = h.val by omega)

/-- The load of a head's rows of a peer's accumulator, at an index. -/
theorem raAt_at (x : Vec Ideal S512x128 .f32) (s : Fin 3) (h : Fin 16) (b : Fin 32) (d : Fin 128) :
    raAt (landA x) s h (ix3 0 b d) = x (ix2 (row h b) d) := by
  unfold raAt VecWindow.window landA
  refine congrArg x (funext fun a => Fin.ext ?_)
  match a with
  | 0 => exact (Rect.emb_apply ..).trans (show 32 * h.val + 1 * b.val = 32 * h.val + b.val by omega)
  | 1 => exact (Rect.emb_apply ..).trans (show 0 + 1 * d.val = d.val by omega)

/-- The accumulator made of its heads' rows, at an index. -/
theorem ofRows_at (p : Fin 16 → Vec Ideal S32x128 .f32) (h : Fin 16) (b : Fin 32) (d : Fin 128) :
    ofRows p (ix2 (row h b) d) = p h (ix2 b d) := by
  have e1 : (32 * h.val + b.val) / 32 = h.val := by omega
  have e2 : (32 * h.val + b.val) % 32 = b.val := by omega
  refine congr (congrArg p (Fin.ext e1)) (funext fun a => ?_)
  match a with
  | 0 => exact Fin.ext e2
  | 1 => rfl

/-- The statistics made of their heads' columns, at an index. -/
theorem ofCols_at (p : Fin 2 → Fin 16 → Vec Ideal S1x32x1 .f32) (j : Fin 2) (b : Fin 32) (h : Fin 16) :
    ofCols p (ix3 j b h) = p j h (ix3 0 b 0) := by
  refine congrArg (p j h) (funext fun a => ?_)
  match a with
  | 0 => rfl
  | 1 => rfl
  | 2 => rfl

/-- The statistics made of the two, at an index. -/
theorem ofPair_at (p : Fin 2 → Vec Ideal S1x32x16 .f32) (j : Fin 2) (b : Fin 32) (h : Fin 16) :
    ofPair p (ix3 j b h) = p j (ix3 0 b h) := by
  refine congrArg (p j) (funext fun a => ?_)
  match a with
  | 0 => rfl
  | 1 => rfl
  | 2 => rfl

/-- The output made of its heads, at an index. -/
theorem ofHeads_at (p : Fin 16 → Vec Ideal S32x1x1x128 .f32) (b : Fin 32) (z : Fin 1) (h : Fin 16) (d : Fin 128) :
    ofHeads p (ix4 b z h d) = p h (ix4 b 0 0 d) := by
  refine congrArg (p h) (funext fun a => ?_)
  match a with
  | 0 => rfl
  | 1 => rfl
  | 2 => rfl
  | 3 => rfl

/-! ## The local attention's operations -/

/-- How often a request's live entries name the page of a row. -/
theorem pay1_at (c : Dev nD) (w : Elt Ideal .i32) (bt : Vec Ideal S32x256 .i32) (ln : Vec Ideal S32x1 .i32) (b : Fin 32) (x : Fin 2048) :
    k0_pay1 c w bt ln (ix2 b x) = ∑ j : Fin 256, FloatOps.sitofp (F := Ideal) FTy.f32 (BitVec.setWidth 32
      (IntOp.andi (IntOp.cmpi .eq (bt (ix2 b j))
          (IntOp.addi (Scalar.addi (Scalar.muli (Scalar.remsi (Scalar.divsi c.word 4#32) 2#32) 256#32) (Scalar.muli w 64#32))
            (BitVec.ofNat 32 (x.val / 32))))
        (IntOp.cmpi .slt (BitVec.ofNat 32 j.val) (ln (ix2 b 0))))) := by
  pointwise [k0_pay1]

/-- Whether they name it at all. -/
theorem pay2_at (c : Dev nD) (w : Elt Ideal .i32) (bt : Vec Ideal S32x256 .i32) (ln : Vec Ideal S32x1 .i32) (b : Fin 32) (x : Fin 2048) :
    k0_pay2 c w bt ln (ix2 b x) = Ideal.cmp .ogt (k0_pay1 c w bt ln (ix2 b x)) 0 := by
  pointwise [k0_pay2]

/-- The masked score of a row. -/
theorem pay3_at (hs : IVec S32x2048 1) (q : Vec Ideal S32x1x1x128 .bf16) (k : Vec Ideal S64x32x1x128 .bf16) (b : Fin 32) (x : Fin 2048) :
    k0_pay3 hs q k (ix2 b x) = Scalar.select (hs (ix2 b x))
      ((∑ y : Fin 128, q (ix4 b 0 0 y) * k (ix4 ⟨x.val / 32, by omega⟩ ⟨x.val % 32, by omega⟩ 0 y)) * Ideal.ofBits .f32 0x3DB504F3#32)
      (Ideal.ofBits .f32 0xF149F2CA#32) := by
  pointwise [k0_pay3]

/-- The maximum of a request's masked scores. -/
theorem pay4_at (hs : IVec S32x2048 1) (q : Vec Ideal S32x1x1x128 .bf16) (k : Vec Ideal S64x32x1x128 .bf16) (b : Fin 32) (z : Fin 1) :
    k0_pay4 hs q k (ix2 b z) = Finset.fold max ⊥ (fun x => k0_pay3 hs q k (ix2 b x)) Finset.univ := by
  rw [← bot_word]
  pointwise [k0_pay4]

/-- The weight of a row: how often its page is named, times the exponential of the score less the maximum. -/
theorem pay5_at (w : FVec Ideal S32x2048 .f32) (hs : IVec S32x2048 1) (q : Vec Ideal S32x1x1x128 .bf16) (k : Vec Ideal S64x32x1x128 .bf16)
    (b : Fin 32) (x : Fin 2048) :
    k0_pay5 w hs q k (ix2 b x) = w (ix2 b x) * Ideal.exp (k0_pay3 hs q k (ix2 b x) - k0_pay4 hs q k (ix2 b 0)) := by
  pointwise [k0_pay5]

/-- The weighted sum of the values. -/
theorem pay6_at (w : FVec Ideal S32x2048 .f32) (hs : IVec S32x2048 1) (q : Vec Ideal S32x1x1x128 .bf16) (k v : Vec Ideal S64x32x1x128 .bf16)
    (b : Fin 32) (d : Fin 128) :
    k0_pay6 w hs q k v (ix2 b d)
      = ∑ x : Fin 2048, k0_pay5 w hs q k (ix2 b x) * v (ix4 ⟨x.val / 32, by omega⟩ ⟨x.val % 32, by omega⟩ 0 d) := by
  pointwise [k0_pay6]

/-- The stored maximum. -/
theorem pay7_at (hs : IVec S32x2048 1) (q : Vec Ideal S32x1x1x128 .bf16) (k : Vec Ideal S64x32x1x128 .bf16) (b : Fin 32) :
    k0_pay7 hs q k (ix3 0 b 0) = k0_pay4 hs q k (ix2 b 0) := by
  pointwise [k0_pay7]

/-- The stored sum of the weights. -/
theorem pay8_at (w : FVec Ideal S32x2048 .f32) (hs : IVec S32x2048 1) (q : Vec Ideal S32x1x1x128 .bf16) (k : Vec Ideal S64x32x1x128 .bf16)
    (b : Fin 32) : k0_pay8 w hs q k (ix3 0 b 0) = ∑ x : Fin 2048, k0_pay5 w hs q k (ix2 b x) := by
  pointwise [k0_pay8]

/-! ## The stages' operations -/

/-- Mixed maxima: the larger. -/
theorem mixSt_max (s : Fin 3) (st st' : Vec Ideal S2x32x16 .f32) (b : Fin 32) (h : Fin 16) :
    mixSt s st st' (ix3 0 b h) = max (st (ix3 0 b h)) (st' (ix3 0 b h)) := by
  rw [mixSt, ofPair_at, if_pos rfl, ← rsAt_at st' s 0 b h, ← sAt_at st 0 b h]
  pointwise [k0_pay112, k0_pay109, k0_pay108, k0_pay106]

/-- Mixed sums: each scaled to the larger maximum, and added. -/
theorem mixSt_sum (s : Fin 3) (st st' : Vec Ideal S2x32x16 .f32) (b : Fin 32) (h : Fin 16) :
    mixSt s st st' (ix3 1 b h)
      = st (ix3 1 b h) * Ideal.exp (st (ix3 0 b h) - max (st (ix3 0 b h)) (st' (ix3 0 b h)))
        + st' (ix3 1 b h) * Ideal.exp (st' (ix3 0 b h) - max (st (ix3 0 b h)) (st' (ix3 0 b h))) := by
  rw [mixSt, ofPair_at, if_neg (by decide), ← rsAt_at st' s 0 b h, ← rsAt_at st' s 1 b h, ← sAt_at st 0 b h, ← sAt_at st 1 b h]
  pointwise [k0_pay113, k0_pay110, k0_pay111, k0_pay109, k0_pay108, k0_pay107, k0_pay106]

/-- Mixed accumulators: each scaled to the larger maximum, and added. -/
theorem mixAcc_at (s : Fin 3) (st st' : Vec Ideal S2x32x16 .f32) (a a' : Vec Ideal S512x128 .f32) (b : Fin 32) (h : Fin 16) (d : Fin 128) :
    mixAcc s st st' a a' (ix2 (row h b) d)
      = a (ix2 (row h b) d) * Ideal.exp (st (ix3 0 b h) - max (st (ix3 0 b h)) (st' (ix3 0 b h)))
        + a' (ix2 (row h b) d) * Ideal.exp (st' (ix3 0 b h) - max (st (ix3 0 b h)) (st' (ix3 0 b h))) := by
  rw [mixAcc, ofRows_at, ← aAt_at a h b d, ← raAt_at a' s h b d, ← rsAt_at st' s 0 b h, ← sAt_at st 0 b h]
  pointwise [mixPay, alOf, beOf, k0_pay110, k0_pay111, k0_pay109, k0_pay108, k0_pay106]

/-- An output: the accumulator over the sum. -/
theorem outPay_at (st : Vec Ideal S2x32x16 .f32) (a : Vec Ideal S512x128 .f32) (b : Fin 32) (h : Fin 16) (d : Fin 128) :
    outPay h (k0_pay107 (sAt st 1)) (aAt a h) (ix4 b 0 0 d) = Ideal.div (a (ix2 (row h b) d)) (st (ix3 1 b h)) := by
  rw [← aAt_at a h b d, ← sAt_at st 1 b h]
  pointwise [outPay, k0_pay107]

end Cert.KernelIdeal.Paged
-- ==== Proof.KernelIdeal.Attend.lean ====
module

public import proofs.«01_k».proof.Proof.KernelIdeal.Reads
public import proofs.«01_k».proof.Proof.KernelIdeal.Table

/-!
# What the kernel computes

Every device holds 64 pages.  Its maximum `m` is a real, and its sums are the weighted exponentials of its rows' scores,
scaled by `exp (-m)` (`local_st`, `local_acc`).  A stage adds a device's sums to its peer's, at the larger maximum
(`after`); after three stages every device has all the devices' sums, which is the sum over the live entries of the block
table; the output is their quotient (`out_at`).
-/

@[expose] public section

noncomputable section

open scoped BigOperators

namespace Cert.KernelIdeal.Paged

open Idealize.ShloMosaic Cert.KernelIdeal.Gen Idealize.ShloMosaic.Pointwise Cert.Softmax

/-- The devices' inputs are the queries, the block table and the lengths, and each device's 64 pages of the keys and values. -/
structure Given (X : Dev nD → In Ideal) (Q : Queries) (K V : Pages) (bt : Blocks) (ln : Lengths) : Prop where
  word : ∀ c, word (X c) = qw c
  q : ∀ c, (X c).q = Q
  k : ∀ c p r h y, (X c).k (ix4 p r h y) = K (ix4 ⟨64 * c.val + p.val, by have : c.val < 8 := c.isLt; omega⟩ r h y)
  v : ∀ c p r h y, (X c).v (ix4 p r h y) = V (ix4 ⟨64 * c.val + p.val, by have : c.val < 8 := c.isLt; omega⟩ r h y)
  bt : ∀ c, (X c).bt = bt
  ln : ∀ c b, (X c).ln (ix2 b 0) = ln (ix1 b)

/-! ## The weights -/

/-- The first page of a device, as a word. -/
theorem first_word (c : Dev nD) :
    Scalar.addi (Scalar.muli (Scalar.remsi (Scalar.divsi c.word 4#32) 2#32) 256#32) (Scalar.muli (qw c) 64#32)
      = BitVec.ofNat 32 (64 * c.val) := by revert c; decide

/-- A bit as a number. -/
theorem bit_number (P : Prop) [Decidable P] :
    FloatOps.sitofp (F := Ideal) FTy.f32 (BitVec.setWidth 32 (BitVec.ofBool (decide P))) = if P then (1 : EReal) else 0 := by
  by_cases h : P
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

section
variable {X : Dev nD → In Ideal} {Q : Queries} {K V : Pages} {bt : Blocks} {ln : Lengths}
  (G : Given X Q K V bt ln) (P : Proper Q K bt ln)
include G P

/-- A row's weight is the number of live entries of the block table that name its page. -/
theorem wt_at (c : Dev nD) (b : Fin 32) (x : Fin 2048) :
    wt (X c) c (ix2 b x)
      = ∑ j, if Live ln b j ∧ (page bt b j).val = 64 * c.val + x.val / 32 then (1 : EReal) else 0 := by
  have hc : c.val < 8 := c.isLt
  rw [wt, pay1_at, G.word, G.bt, G.ln, first_word]
  refine Finset.sum_congr rfl fun j _ => ?_
  have e : IntOp.cmpi .eq (bt (ix2 b j)) (IntOp.addi (BitVec.ofNat 32 (64 * c.val)) (BitVec.ofNat 32 (x.val / 32)))
      = BitVec.ofBool (decide (bt (ix2 b j) = BitVec.ofNat 32 (64 * c.val + x.val / 32))) := by
    show BitVec.ofBool (_ == BitVec.ofNat 32 _ + BitVec.ofNat 32 _) = _
    rw [← BitVec.ofNat_add]; rfl
  have a (p q : Prop) [Decidable p] [Decidable q] :
      IntOp.andi (BitVec.ofBool (decide p)) (BitVec.ofBool (decide q)) = BitVec.ofBool (decide (q ∧ p)) := by
    by_cases h : p <;> by_cases h' : q <;> simp [h, h', IntOp.andi]
  rw [e, live_word, a, bit_number]
  refine if_congr (and_congr_right fun hl => ?_) rfl rfl
  obtain ⟨h0, h1⟩ := P.inRange b j hl
  have hn : ((bt (ix2 b j)).toNat : ℤ) = (bt (ix2 b j)).toInt := by
    have := (bt (ix2 b j)).isLt
    rw [BitVec.toInt_eq_toNat_cond] at h0 ⊢; split_ifs at h0 ⊢ <;> omega
  have hp : (page bt b j).val = (bt (ix2 b j)).toNat := by
    show min (bt (ix2 b j)).toInt.toNat 511 = _; omega
  rw [hp]
  constructor
  · intro h; rw [h, BitVec.toNat_ofNat]; omega
  · intro h; rw [← h]; simp

/-- A row's weight as a count. -/
theorem wt_count (c : Dev nD) (b : Fin 32) (x : Fin 2048) : ∃ n : ℕ, wt (X c) c (ix2 b x) = ((n : ℝ) : EReal) :=
  ⟨_, (wt_at G P c b x).trans (count_real _)⟩

/-! ## One device -/

/-- The score of row `x` of a device. -/
def sc (Q : Queries) (K : Pages) (c : Dev nD) (b : Fin 32) (h : Fin 16) (x : Fin 2048) : ℝ :=
  score Q K b h ⟨64 * c.val + x.val / 32, by have : c.val < 8 := c.isLt; omega⟩ ⟨x.val % 32, by omega⟩

/-- A device's scores: a row of a page that nothing names at the masked score. -/
theorem score_at (neg : ℝ) (hneg : Ideal.ofBits .f32 0xF149F2CA#32 = (neg : EReal)) (c : Dev nD) (b : Fin 32) (h : Fin 16) (x : Fin 2048) :
    k0_pay3 (hs (X c) c) (qAt (X c).q h) (kAt (X c).k h) (ix2 b x)
      = Scalar.select (Ideal.cmp .ogt (wt (X c) c (ix2 b x)) 0) (sc Q K c b h x : EReal) (neg : EReal) := by
  rw [pay3_at, hneg, sc, ← scoreE_eq P.finQ P.finK, scoreE, hs, pay2_at]
  simp only [qAt_at, kAt_at, G.q, G.k]
  rfl

/-- A device's maximum is a real, and each row's weighted exponential is scaled by its. -/
theorem local_max (c : Dev nD) (b : Fin 32) (h : Fin 16) :
    ∃ m : ℝ, k0_pay4 (hs (X c) c) (qAt (X c).q h) (kAt (X c).k h) (ix2 b 0) = (m : EReal)
      ∧ ∀ x, k0_pay5 (wt (X c) c) (hs (X c) c) (qAt (X c).q h) (kAt (X c).k h) (ix2 b x)
          = (Real.exp (-m) : EReal) * (wt (X c) c (ix2 b x) * (Real.exp (sc Q K c b h x) : EReal)) := by
  obtain ⟨neg, hneg⟩ := mask_real
  have hx (x : Fin 2048) : ∃ s : ℝ, k0_pay3 (hs (X c) c) (qAt (X c).q h) (kAt (X c).k h) (ix2 b x) = (s : EReal) := by
    rw [score_at G P neg hneg]; unfold Scalar.select; split_ifs; exacts [⟨_, rfl⟩, ⟨_, rfl⟩]
  obtain ⟨m, hm⟩ := fold_max_real Finset.univ (fun x => k0_pay3 (hs (X c) c) (qAt (X c).q h) (kAt (X c).k h) (ix2 b x))
    (fun x _ => by obtain ⟨s, e⟩ := hx x; rw [e]; exact EReal.coe_ne_top s)
    ⟨0, Finset.mem_univ _, by obtain ⟨s, e⟩ := hx 0; rw [e]; exact EReal.coe_ne_bot s⟩
  refine ⟨m, (pay4_at ..).trans hm, fun x => ?_⟩
  obtain ⟨n, hn⟩ := wt_count G P c b x
  rw [pay5_at, pay4_at, hm, score_at G P neg hneg, hn, weigh]

/-- A device's weighted exponentials, summed. -/
def part (X : Dev nD → In Ideal) (Q : Queries) (K : Pages) (b : Fin 32) (h : Fin 16) (c : Dev nD) : EReal :=
  ∑ x : Fin 2048, wt (X c) c (ix2 b x) * (Real.exp (sc Q K c b h x) : EReal)
/-- A device's values, summed with those weights. -/
def partV (X : Dev nD → In Ideal) (Q : Queries) (K V : Pages) (b : Fin 32) (h : Fin 16) (d : Fin 128) (c : Dev nD) : EReal :=
  ∑ x : Fin 2048, wt (X c) c (ix2 b x) * ((Real.exp (sc Q K c b h x) : EReal)
    * V (ix4 ⟨64 * c.val + x.val / 32, by have : c.val < 8 := c.isLt; omega⟩ ⟨x.val % 32, by omega⟩ h d))

/-! ## The stages -/

omit G P in
/-- What a device has of the sum of `f` over the devices after `n` stages. -/
def gathered (f : Dev nD → EReal) : ℕ → Dev nD → EReal
  | 0, c => f c
  | n + 1, c => gathered f n c + gathered f n (peer (stage n) c)

omit G P in
/-- After three stages it is all of it. -/
theorem gathered_all (f : Dev nD → EReal) (c : Dev nD) : gathered f 3 c = ∑ d : Fin 8, f d := by
  have e : gathered f 3 c
      = f c + f (peer 0 c) + (f (peer 1 c) + f (peer 0 (peer 1 c)))
        + (f (peer 2 c) + f (peer 0 (peer 2 c)) + (f (peer 1 (peer 2 c)) + f (peer 0 (peer 1 (peer 2 c))))) := rfl
  have h0 : ∀ d : Dev nD, peer 0 d = (![1, 0, 3, 2, 5, 4, 7, 6] : Fin 8 → Fin 8) d := by decide
  have h1 : ∀ d : Dev nD, peer 1 d = (![2, 3, 0, 1, 6, 7, 4, 5] : Fin 8 → Fin 8) d := by decide
  have h2 : ∀ d : Dev nD, peer 2 d = (![4, 5, 6, 7, 0, 1, 2, 3] : Fin 8 → Fin 8) d := by decide
  rw [Fin.sum_univ_eight, e]
  simp only [h0, h1, h2]
  clear e h0 h1 h2
  revert c
  intro (c : Fin 8)
  fin_cases c <;> simp <;> abel

/-- After `n` stages a device's maximum is a real, and its sums are its share of all the devices' sums, scaled. -/
theorem after (b : Fin 32) (h : Fin 16) (n : ℕ) (c : Dev nD) :
    ∃ m : ℝ, stAt X n c (ix3 0 b h) = (m : EReal)
      ∧ stAt X n c (ix3 1 b h) = (Real.exp (-m) : EReal) * gathered (part X Q K b h) n c
      ∧ ∀ d, accAt X n c (ix2 (row h b) d) = (Real.exp (-m) : EReal) * gathered (partV X Q K V b h d) n c := by
  induction n generalizing c with
  | zero =>
    obtain ⟨m, hm, hx⟩ := local_max G P c b h
    refine ⟨m, ?_, ?_, fun d => ?_⟩
    · show st0 (X c) c _ = _
      rw [st0, ofCols_at, if_pos rfl, pay7_at, hm]
    · show st0 (X c) c _ = _ * part X Q K b h c
      rw [st0, ofCols_at, if_neg (by decide), pay8_at, part, coe_mul_sum _ (Real.exp_pos _).le]
      exact Finset.sum_congr rfl fun x _ => hx x
    · show acc0 (X c) c _ = _ * partV X Q K V b h d c
      rw [acc0, ofRows_at, pay6_at, partV, coe_mul_sum _ (Real.exp_pos _).le]
      refine Finset.sum_congr rfl fun x _ => ?_
      rw [hx, kAt_at, G.v, mul_assoc, mul_assoc]
  | succ n ih =>
    obtain ⟨m, hm, hl, ha⟩ := ih c
    obtain ⟨m', hm', hl', ha'⟩ := ih (peer (stage n) c)
    refine ⟨max m m', ?_, ?_, fun d => ?_⟩
    · show mixSt _ _ _ _ = _
      rw [mixSt_max, hm, hm', max_coe]
    · show mixSt _ _ _ _ = _
      rw [mixSt_sum, hm, hm', hl, hl', mix]; rfl
    · show mixAcc _ _ _ _ _ _ = _
      rw [mixAcc_at, hm, hm', ha, ha', mix]; rfl

/-! ## The output -/

/-- All the devices' weighted exponentials are the live rows' exponentials. -/
theorem part_all (b : Fin 32) (h : Fin 16) :
    ∑ c : Fin 8, part X Q K b h c = (total (Live ln b) (page bt b) (score Q K b h) : EReal) := by
  rw [total_coe]
  exact sum_pages (Live ln b) (page bt b) (fun P r => (Real.exp (score Q K b h P r) : EReal)) (fun c x => wt (X c) c (ix2 b x))
    fun c x => wt_at G P c b x

/-- All the devices' weighted values are the live rows' weighted values. -/
theorem partV_all (b : Fin 32) (h : Fin 16) (d : Fin 128) :
    ∑ c : Fin 8, partV X Q K V b h d c = weighted (Live ln b) (page bt b) (score Q K b h) fun P r => V (ix4 P r h d) :=
  sum_pages (Live ln b) (page bt b) (fun P r => (Real.exp (score Q K b h P r) : EReal) * V (ix4 P r h d)) (fun c x => wt (X c) c (ix2 b x))
    fun c x => wt_at G P c b x

/-- THE KERNEL'S VALUE: on every device, the softmax-weighted sum of the values over the live pages. -/
theorem out_at (c : Dev nD) (b : Fin 32) (z : Fin 1) (h : Fin 16) (d : Fin 128) :
    outAt X c (ix4 b z h d) = spec Q K V bt ln b h d := by
  obtain ⟨m, _, hl, ha⟩ := after G P b h 3 c
  rw [outAt, ofHeads_at, outPay_at, hl, ha, gathered_all, gathered_all, part_all G P, partV_all G P,
    ratio m _ (total_pos _ _ _ 0 (live_first P.pos b))]
  rfl

end

end Cert.KernelIdeal.Paged
-- ==== Proof.Reference.lean ====
module

public import proofs.«01_k».proof.Proof.Gen.ReferenceIdeal.Run
public import proofs.«01_k».proof.Proof.Spec

/-!
# What the reference computes, read at an index

The reference's composed term is cut into its named steps (the live mask, the fetched pages, the masked scores, the
normalised exponentials), and each step is read at an index.
-/

@[expose] public section

noncomputable section

namespace Cert.ReferenceIdeal.Paged

open Cert.ReferenceIdeal Cert.ReferenceIdeal.Gen Idealize.ShloMosaic Idealize.ShloMosaic.TcCoe Idealize.ShloMosaic.Pointwise Cert.Softmax

/-- The live mask: rows of pages before the length. -/
def liveMask (ln : Vec Ideal S32 .i32) : IVec S32x16x8192 1 :=
  broadcastInDim S32x16x8192 ![0, 1, 2] bcast_S32x1x8192_S32x16x8192_0_1_2 (shapeCast _ (broadcastInDim S32x256x32 ![0, 1, 2] bcast_S32x256x1_S32x256x32_0_1_2 (broadcastInDim S32x256x1 ![0, 1] bcast_S32x256_S32x256x1_0_1 (cmpi .slt (broadcastInDim S32x256 ![0, 1] bcast_S1x256_S32x256_0_1 (broadcastInDim S1x256 ![1] bcast_S256_S1x256_1 (iotaInDim S256 32 0))) (broadcastInDim S32x256 ![0, 1] bcast_S32x1_S32x256_0_1 (broadcastInDim S32x1 ![0] bcast_S32_S32x1_0 ln))))) shapeCasts_S32x256x32_S32x1x8192)

/-- The pages the block table names, as start indices. -/
def starts (bt : Vec Ideal S32x256 .i32) : IVec S32x256x1 32 :=
  broadcastInDim S32x256x1 ![0, 1] bcast_S32x256_S32x256x1_0_1 (select (cmpi .slt bt (broadcastInDim S32x256 ![] bcast_S_S32x256 (constantI S_ 32 0#32))) (addi bt (broadcastInDim S32x256 ![] bcast_S_S32x256 (constantI S_ 32 512#32))) bt)

/-- The pages fetched, their rows in one line. -/
def fetched (bt : Vec Ideal S32x256 .i32) (K : Vec Ideal S512x32x16x128 .bf16) : FVec Ideal S32x8192x16x128 .f32 :=
  shapeCast _ (Host.gather gather_S512x32x16x128_S32x256x1_S32x256x32x16x128_234_0_n_n_0_2_13216128 (extf .f32 K bitsLt_bf16_f32) (starts bt)) shapeCasts_S32x256x32x16x128_S32x8192x16x128

/-- The scores, the dead rows at minus infinity. -/
def scores (Q : Vec Ideal S32x1x16x128 .bf16) (K : Vec Ideal S512x32x16x128 .bf16) (bt : Vec Ideal S32x256 .i32) (ln : Vec Ideal S32 .i32) : FVec Ideal S32x16x8192 .f32 :=
  select (liveMask ln) (mulf (Host.dotGeneral dot_S32x16x128_S32x8192x16x128_S32x16x8192_2_3_n_1_01_02 none (shapeCast _ (extf .f32 Q bitsLt_bf16_f32) shapeCasts_S32x1x16x128_S32x16x128) (fetched bt K)) (broadcastInDim S32x16x8192 ![] bcast_S_S32x16x8192 (constant S_ .f32 0x3DB504F3#32))) (broadcastInDim S32x16x8192 ![] bcast_S_S32x16x8192 (id (constant S_ .f32 0xFF800000#32)))

/-- The exponentials of the scores less their maximum. -/
def exps (s : FVec Ideal S32x16x8192 .f32) : FVec Ideal S32x16x8192 .f32 :=
  Host.exp (subf s (broadcastInDim S32x16x8192 ![0, 1, 2] bcast_S32x16x1_S32x16x8192_0_1_2 (broadcastInDim S32x16x1 ![0, 1] bcast_S32x16_S32x16x1_0_1 (Host.reduce FloatOps.maximumf s (constant S_ .f32 0xFF800000#32) reducesTo_S32x16x8192_S32x16_d2 h_S_))))

/-- The values summed with the exponentials, each divided by their sum. -/
def mixed (e : FVec Ideal S32x16x8192 .f32) (v : FVec Ideal S32x8192x16x128 .f32) : FVec Ideal S32x1x16x128 .f32 :=
  shapeCast _ (Host.dotGeneral dot_S32x16x8192_S32x8192x16x128_S32x16x128_2_1_n_3_01_02 none (Host.divf e (broadcastInDim S32x16x8192 ![0, 1, 2] bcast_S32x16x1_S32x16x8192_0_1_2 (broadcastInDim S32x16x1 ![0, 1] bcast_S32x16_S32x16x1_0_1 (Host.reduceAdd e (constant S_ .f32 0x00000000#32) reducesTo_S32x16x8192_S32x16_d2 h_S_)))) v) shapeCasts_S32x16x128_S32x1x16x128

/-- The reference's result is its steps, one after the other. -/
theorem res_eq (m : (ℓ : Loc nD τ sig) → Buf (Elt Ideal) ℓ) (c : Dev nD) :
    Value.res_main_v43 m c = mixed (exps (scores (m ((c.tc : Thread nD τ).loc main_arg0)) (m ((c.tc : Thread nD τ).loc main_arg1)) (m ((c.tc : Thread nD τ).loc main_arg3)) (m ((c.tc : Thread nD τ).loc main_arg4))))
      (fetched (m ((c.tc : Thread nD τ).loc main_arg3)) (m ((c.tc : Thread nD τ).loc main_arg2))) := rfl

/-- A row is live when its page's entry of the block table is. -/
theorem liveMask_at (ln : Vec Ideal S32 .i32) (b : Fin 32) (h : Fin 16) (x : Fin 8192) :
    liveMask ln (ix3 b h x) = BitVec.ofBool (decide (Live ln b ⟨x.val / 32, by omega⟩)) := by
  refine Eq.trans ?_ (live_word ln b ⟨x.val / 32, by omega⟩)
  pointwise [liveMask]

/-- A start index that names a page is the block table's entry. -/
theorem starts_at (bt : Vec Ideal S32x256 .i32) (b : Fin 32) (j : Fin 256) (z : Fin 1) (h : 0 ≤ (bt (ix2 b j)).toInt) :
    starts bt (ix3 b j z) = bt (ix2 b j) := by
  have e : IntOp.cmpi .slt (bt (ix2 b j)) 0#32 = 0#1 := by
    show BitVec.ofBool (BitVec.slt _ _) = _
    rw [BitVec.slt_eq_decide, decide_eq_false (by simpa using h)]; rfl
  refine Eq.trans (b := Scalar.select (IntOp.cmpi .slt (bt (ix2 b j)) 0#32) (IntOp.addi (bt (ix2 b j)) 512#32) (bt (ix2 b j))) ?_ (by rw [e]; rfl)
  pointwise [starts]

/-- The fetch reads the page its start index names, clamped to the pages. -/
theorem gather_at (K : FVec Ideal S512x32x16x128 .f32) (st : IVec S32x256x1 32) (b : Fin 32) (j : Fin 256) (r : Fin 32) (h : Fin 16) (d : Fin 128) :
    Host.gather gather_S512x32x16x128_S32x256x1_S32x256x32x16x128_234_0_n_n_0_2_13216128 K st (ix5 b j r h d)
      = K (ix4 ⟨min (st (ix3 b j 0)).toInt.toNat 511, by omega⟩ r h d) := by
  unfold Host.gather
  refine congrArg K (funext fun a => Fin.ext ?_)
  match a with
  | ⟨0, _⟩ =>
    show GatherDims.start _ _ st 0 + GatherDims.batchCoord _ _ 0 + GatherDims.offCoord _ _ 0 = _
    rw [GatherDims.batchCoord_eq_zero _ _ _ (fun h => by simp [gather_S512x32x16x128_S32x256x1_S32x256x32x16x128_234_0_n_n_0_2_13216128] at h),
      GatherDims.offCoord_eq_zero _ _ _ (fun h => ((GatherDims.mem_sKept _ _).mp h).1 (List.mem_singleton.mpr rfl))]
    simp only [Nat.add_zero]
    unfold GatherDims.start
    rw [dif_pos (show (0 : Fin 4) ∈ gather_S512x32x16x128_S32x256x1_S32x256x32x16x128_234_0_n_n_0_2_13216128.startIndexMap from List.mem_singleton.mpr rfl)]
    have hsi : gather_S512x32x16x128_S32x256x1_S32x256x32x16x128_234_0_n_n_0_2_13216128.siIdx (ix5 b j r h d) ⟨0, by decide⟩ = ix3 b j 0 := by
      funext a; refine Fin.ext ?_
      match a with
      | ⟨0, _⟩ => rfl
      | ⟨1, _⟩ => rfl
      | ⟨2, _⟩ => rfl
    exact congrArg (fun i => min (st i).toInt.toNat 511) hsi
  | ⟨1, _⟩ => exact (show 0 + 0 + r.val = r.val by omega)
  | ⟨2, _⟩ => exact (show 0 + 0 + h.val = h.val by omega)
  | ⟨3, _⟩ => exact (show 0 + 0 + d.val = d.val by omega)

/-- A live row of the fetched pages is that row of the page its entry of the block table names. -/
theorem fetched_at (bt : Vec Ideal S32x256 .i32) (K : Vec Ideal S512x32x16x128 .bf16) (b : Fin 32) (x : Fin 8192) (h : Fin 16) (d : Fin 128)
    (hb : 0 ≤ (bt (ix2 b ⟨x.val / 32, by omega⟩)).toInt) :
    fetched bt K (ix4 b x h d) = K (ix4 (page bt b ⟨x.val / 32, by omega⟩) ⟨x.val % 32, by omega⟩ h d) := by
  refine Eq.trans (b := Host.gather gather_S512x32x16x128_S32x256x1_S32x256x32x16x128_234_0_n_n_0_2_13216128 (extf FTy.f32 K bitsLt_bf16_f32)
      (starts bt) (ix5 b ⟨x.val / 32, by omega⟩ ⟨x.val % 32, by omega⟩ h d)) (by pointwise [fetched]) ?_
  rw [gather_at]
  exact congrArg (fun P => K (ix4 P ⟨x.val % 32, by omega⟩ h d)) (Fin.ext (congrArg (fun w : BitVec 32 => min w.toInt.toNat 511) (starts_at bt b _ 0 hb)))

/-- The scores: a live row's score, a dead row's minus infinity. -/
theorem scores_at {Q : Vec Ideal S32x1x16x128 .bf16} {K : Vec Ideal S512x32x16x128 .bf16} {bt : Vec Ideal S32x256 .i32} {ln : Vec Ideal S32 .i32}
    (P : Proper Q K bt ln) (b : Fin 32) (h : Fin 16) (x : Fin 8192) :
    scores Q K bt ln (ix3 b h x) = if Live ln b ⟨x.val / 32, by omega⟩
      then (score Q K b h (page bt b ⟨x.val / 32, by omega⟩) ⟨x.val % 32, by omega⟩ : EReal) else ⊥ := by
  refine Eq.trans (b := Scalar.select (liveMask ln (ix3 b h x))
      ((∑ y : Fin 128, Q (ix4 b 0 h y) * fetched bt K (ix4 b x h y)) * Ideal.ofBits .f32 0x3DB504F3#32) (Ideal.ofBits .f32 0xFF800000#32)) (by pointwise [scores]; rfl) ?_
  rw [liveMask_at, select_ofBool, bot_word]
  split_ifs with hl
  · rw [← scoreE_eq P.finQ P.finK, scoreE]
    simp only [fetched_at bt K b x h _ (P.inRange b _ hl).1]
  · rfl

/-- The exponentials of the scores less their maximum. -/
theorem exps_at (s : FVec Ideal S32x16x8192 .f32) (b : Fin 32) (h : Fin 16) (x : Fin 8192) :
    exps s (ix3 b h x) = Ideal.exp (s (ix3 b h x) - Finset.fold max ⊥ (fun x => s (ix3 b h x)) Finset.univ) := by
  rw [← bot_word]
  pointwise [exps]

/-- The values summed with the normalised exponentials. -/
theorem mixed_at (e : FVec Ideal S32x16x8192 .f32) (v : FVec Ideal S32x8192x16x128 .f32) (b : Fin 32) (z : Fin 1) (h : Fin 16) (d : Fin 128) :
    mixed e v (ix4 b z h d) = ∑ x, Ideal.div (e (ix3 b h x)) (∑ y, e (ix3 b h y)) * v (ix4 b x h d) := by
  pointwise [mixed]

/-- THE REFERENCE'S VALUE: the softmax-weighted sum of the values over the live pages. -/
theorem res_at {Q : Vec Ideal S32x1x16x128 .bf16} {K : Vec Ideal S512x32x16x128 .bf16} (V : Vec Ideal S512x32x16x128 .bf16)
    {bt : Vec Ideal S32x256 .i32} {ln : Vec Ideal S32 .i32} (P : Proper Q K bt ln) (b : Fin 32) (z : Fin 1) (h : Fin 16) (d : Fin 128) :
    mixed (exps (scores Q K bt ln)) (fetched bt V) (ix4 b z h d) = spec Q K V bt ln b h d := by
  rw [mixed_at]
  simp only [exps_at]
  exact whole (Live ln b) (page bt b) (N := 8192) rfl (score Q K b h) (fun P r => V (ix4 P r h d)) (fun x => scores Q K bt ln (ix3 b h x))
    (fun x => fetched bt V (ix4 b x h d)) (fun x => scores_at P b h x)
    (fun x hx => fetched_at bt V b x h d (P.inRange b _ hx).1) 0 (live_first P.pos b)

end Cert.ReferenceIdeal.Paged
-- ==== Proof.Meet.lean ====
module

public import proofs.«01_k».proof.Defs
public import proofs.«01_k».proof.Proof.KernelIdeal.Attend
public import proofs.«01_k».proof.Proof.KernelIdeal.Run
public import proofs.«01_k».proof.Proof.Reference

/-!
# The kernel meets the reference

The precondition on the devices' blocks gives `Proper` of the whole arrays (`proper_of_pre`), the layout of the blocks gives
`Given` (`given_of_layout`), and the two programs' results are then one array (`meets`).
-/

@[expose] public section

noncomputable section

open scoped BigOperators

namespace Cert.Meet

open Idealize.ShloMosaic Idealize.SL.Sem Idealize.ShloMosaic.Pointwise Cert.Softmax Cert.KernelIdeal.Paged

/-- The shapes the precondition on the kernel's blocks broadcasts between. -/
instance preKernelFacts : Cert.Pre_proper_KernelIdeal.Facts where
  bcast_S256_S1x256_1 := by decide
  bcast_S32_S32x1_0 := by decide
  bcast_S1x256_S32x256_0_1 := by decide
  bcast_S32x1_S32x256_0_1 := by decide
  bcast_S_S32x1x16x128 := by decide
  bcast_S_S256x32x16x128 := by decide
  bcast_S_S32 := by decide
  bcast_S_S32x256 := by decide

/-- The shapes the precondition on the reference's arrays broadcasts between. -/
instance preReferenceFacts : Cert.Pre_proper_ReferenceIdeal.Facts where
  bcast_S256_S1x256_1 := by decide
  bcast_S32_S32x1_0 := by decide
  bcast_S1x256_S32x256_0_1 := by decide
  bcast_S32x1_S32x256_0_1 := by decide
  bcast_S_S32x1x16x128 := by decide
  bcast_S_S512x32x16x128 := by decide
  bcast_S_S32 := by decide
  bcast_S_S32x256 := by decide

/-! ## The precondition's bits -/

/-- The word of plus infinity. -/
theorem top_word : Ideal.ofBits .bf16 0x7F80#16 = ⊤ := by simp [Ideal.ofBits, Ideal.ieee]

/-- A bit that is one was decided true. -/
theorem of_bit {p : Bool} (h : BitVec.ofBool p = 1#1) : p = true := by revert h; revert p; decide

/-- A value whose magnitude is below infinity is a real. -/
theorem real_of_abs {x : EReal} (h : max x (-x) < ⊤) : ∃ r : ℝ, x = (r : EReal) := by
  obtain ⟨h1, h2⟩ := max_lt_iff.mp h
  refine ⟨x.toReal, (EReal.coe_toReal h1.ne fun e => ?_).symm⟩
  rw [e, EReal.neg_bot] at h2
  exact lt_irrefl _ h2

/-- The comparison of a magnitude with infinity, when it holds. -/
theorem real_of_bit {x : EReal}
    (h : FloatOps.cmpf (F := Ideal) (φ := .bf16) .olt (FloatOps.hostAbsf (F := Ideal) (φ := .bf16) x) (Ideal.ofBits .bf16 0x7F80#16) = 1#1) :
    ∃ r : ℝ, x = (r : EReal) := by
  rw [top_word] at h
  exact real_of_abs (of_decide_eq_true (of_bit h))

/-- A word above zero, when the comparison holds. -/
theorem pos_of_bit {w : BitVec 32} (h : IntOp.cmpi .sgt w 0#32 = 1#1) : 0 < w.toInt := by
  have := of_bit h
  simpa [BitVec.slt_eq_decide] using this

/-- A word that is live is between zero and 512, when the bit of the implication holds. -/
theorem range_of_bit {P : Prop} [Decidable P] {w : BitVec 32}
    (h : IntOp.ori (~~~BitVec.ofBool (decide P)) (IntOp.andi (IntOp.cmpi .sge w 0#32) (IntOp.cmpi .slt w 512#32)) = 1#1)
    (hP : P) : 0 ≤ w.toInt ∧ w.toInt < 512 := by
  have hb : ∀ p q : Bool, IntOp.ori (~~~BitVec.ofBool true) (IntOp.andi (BitVec.ofBool p) (BitVec.ofBool q)) = 1#1 →
      p = true ∧ q = true := by decide
  rw [decide_eq_true hP] at h
  obtain ⟨h1, h2⟩ := hb _ _ h
  constructor
  · simpa [BitVec.sle_eq_decide] using h1
  · simpa [BitVec.slt_eq_decide] using h2

section Pre
open Cert.Pre_proper_KernelIdeal

variable (Q : FVec Ideal S32x1x16x128 .bf16) (K V : FVec Ideal S256x32x16x128 .bf16) (bt : IVec S32x256 32) (ln : IVec S32 32)

/-- The first result: the queries' magnitudes are below infinity. -/
theorem pre_q (h : (fn (F := Ideal) Q K V bt ln).1 = fun _ => 1#1) (i : S32x1x16x128.Idx) : ∃ x : ℝ, Q i = (x : EReal) := by
  have e := congrFun h i
  exact real_of_bit e

/-- The second: the keys' magnitudes are below infinity. -/
theorem pre_k (h : (fn (F := Ideal) Q K V bt ln).2.1 = fun _ => 1#1) (i : S256x32x16x128.Idx) : ∃ x : ℝ, K i = (x : EReal) := by
  have e := congrFun h i
  exact real_of_bit e

/-- The third: the lengths are above zero. -/
theorem pre_ln (h : (fn (F := Ideal) Q K V bt ln).2.2.1 = fun _ => 1#1) (b : Fin 32) : 0 < (ln (ix1 b)).toInt := by
  have e := congrFun h (ix1 b)
  exact pos_of_bit e

/-- The fourth: the live entries of the block table name pages. -/
theorem pre_bt (h : (fn (F := Ideal) Q K V bt ln).2.2.2 = fun _ => 1#1) (b : Fin 32) (j : Fin 256) (hl : Live ln b j) :
    0 ≤ (bt (ix2 b j)).toInt ∧ (bt (ix2 b j)).toInt < 512 := by
  have e := congrFun h (ix2 b j)
  pointwise [fn, fn_part1] at e
  rw [live_word ln b j] at e
  exact range_of_bit e hl

end Pre

/-! ## The blocks -/

section Blocks

/-- The whole array's index that device `c`'s block has at `(p, r, h, y)`. -/
theorem block_at {α : Type} (A : (⟨4, ![512, 32, 16, 128]⟩ : Shape).Idx → α) (c : Dev Cert.KernelIdeal.nD) (p : Fin 256) (r : Fin 32) (h : Fin 16)
    (y : Fin 128) :
    Layout.blockN ⟨4, ![256, 32, 16, 128]⟩ ⟨4, ![512, 32, 16, 128]⟩ (Layout.meshBlock [2, 2, 2] ![[0], [], [], []] c) A (by decide) (ix4 p r h y)
      = A (ix4 ⟨256 * (c.val / 4) + p.val, by have : c.val < 8 := c.isLt; omega⟩ r h y) := by
  rw [Layout.blockN_apply]
  refine congrArg A (funext fun a => Fin.ext ?_)
  rw [Layout.TilesN.idx_val]
  have hc : ∀ c : Fin 8, Layout.meshLin [2, 2, 2] c.val [0] = c.val / 4 := by decide
  have hz : ∀ c : Fin 8, Layout.meshLin [2, 2, 2] c.val [] = 0 := by decide
  match a with
  | ⟨0, _⟩ =>
    show Layout.meshLin [2, 2, 2] c.val [0] * 256 + p.val = 256 * (c.val / 4) + p.val
    rw [hc c]; omega
  | ⟨1, _⟩ =>
    show Layout.meshLin [2, 2, 2] c.val [] * 32 + r.val = r.val
    rw [hz c]; omega
  | ⟨2, _⟩ =>
    show Layout.meshLin [2, 2, 2] c.val [] * 16 + h.val = h.val
    rw [hz c]; omega
  | ⟨3, _⟩ =>
    show Layout.meshLin [2, 2, 2] c.val [] * 128 + y.val = y.val
    rw [hz c]; omega

/-- Device `c`'s quarter of its block, at `(p, r, h, y)`. -/
theorem quarter_at (A : Vec Ideal Cert.KernelIdeal.S256x32x16x128 .bf16) (c : Dev Cert.KernelIdeal.nD) (p : Fin 64) (r : Fin 32) (h : Fin 16)
    (y : Fin 128) :
    quarter (F := Ideal) c A (ix4 p r h y) = A (ix4 ⟨64 * (c.val % 4) + p.val, by omega⟩ r h y) := by
  have hq : ∀ c : Dev Cert.KernelIdeal.nD, qi c = c.val % 4 := by decide
  refine congrArg A (funext fun a => Fin.ext ?_)
  match a with
  | ⟨0, _⟩ =>
    show qi c * 64 + 1 * p.val = 64 * (c.val % 4) + p.val
    rw [hq c]; omega
  | ⟨1, _⟩ => show 0 * 32 + 1 * r.val = r.val; omega
  | ⟨2, _⟩ => show 0 * 16 + 1 * h.val = h.val; omega
  | ⟨3, _⟩ => show 0 * 128 + 1 * y.val = y.val; omega

/-- Device `c`'s quarter of its block of the whole array. -/
theorem quarter_block (A : Pages) (c : Dev Cert.KernelIdeal.nD) (p : Fin 64) (r : Fin 32) (h : Fin 16) (y : Fin 128) :
    quarter (F := Ideal) c (Layout.blockN ⟨4, ![256, 32, 16, 128]⟩ ⟨4, ![512, 32, 16, 128]⟩ (Layout.meshBlock [2, 2, 2] ![[0], [], [], []] c) A)
      (ix4 p r h y) = A (ix4 ⟨64 * c.val + p.val, by have : c.val < 8 := c.isLt; omega⟩ r h y) := by
  rw [quarter_at, block_at]
  refine congrArg (fun P => A (ix4 P r h y)) (Fin.ext ?_)
  show 256 * (c.val / 4) + (64 * (c.val % 4) + p.val) = 64 * c.val + p.val
  omega

end Blocks

/-! ## The two memories -/

/-- A device's buffer before the kernel's run. -/
abbrev KMem := (ℓ : Loc Cert.KernelIdeal.nD Cert.KernelIdeal.τ Cert.KernelIdeal.sig) → Buf (Elt Ideal) ℓ
/-- The reference's. -/
abbrev RMem := (ℓ : Loc Cert.ReferenceIdeal.nD Cert.ReferenceIdeal.τ Cert.ReferenceIdeal.sig) → Buf (Elt Ideal) ℓ

/-- The reference's queries. -/
abbrev rQ (m' : RMem) : Queries := m' (((0 : Dev Cert.ReferenceIdeal.nD).tc : Thread Cert.ReferenceIdeal.nD Cert.ReferenceIdeal.τ).loc Cert.ReferenceIdeal.main_arg0)
/-- The reference's keys. -/
abbrev rK (m' : RMem) : Pages := m' (((0 : Dev Cert.ReferenceIdeal.nD).tc : Thread Cert.ReferenceIdeal.nD Cert.ReferenceIdeal.τ).loc Cert.ReferenceIdeal.main_arg1)
/-- The reference's values. -/
abbrev rV (m' : RMem) : Pages := m' (((0 : Dev Cert.ReferenceIdeal.nD).tc : Thread Cert.ReferenceIdeal.nD Cert.ReferenceIdeal.τ).loc Cert.ReferenceIdeal.main_arg2)
/-- The reference's block table. -/
abbrev rB (m' : RMem) : Blocks := m' (((0 : Dev Cert.ReferenceIdeal.nD).tc : Thread Cert.ReferenceIdeal.nD Cert.ReferenceIdeal.τ).loc Cert.ReferenceIdeal.main_arg3)
/-- The reference's lengths. -/
abbrev rL (m' : RMem) : Lengths := m' (((0 : Dev Cert.ReferenceIdeal.nD).tc : Thread Cert.ReferenceIdeal.nD Cert.ReferenceIdeal.τ).loc Cert.ReferenceIdeal.main_arg4)

/-- The devices hold their blocks, or their copies, of the reference's arrays. -/
def Laid (m : KMem) (m' : RMem) : Prop :=
  ∀ c : Dev Cert.KernelIdeal.nD,
    m ((c.tc : Thread Cert.KernelIdeal.nD Cert.KernelIdeal.τ).loc Cert.KernelIdeal.main_arg0) = rQ m'
    ∧ m ((c.tc : Thread Cert.KernelIdeal.nD Cert.KernelIdeal.τ).loc Cert.KernelIdeal.main_arg1)
        = Layout.blockN ⟨4, ![256, 32, 16, 128]⟩ ⟨4, ![512, 32, 16, 128]⟩ (Layout.meshBlock [2, 2, 2] ![[0], [], [], []] c) (rK m')
    ∧ m ((c.tc : Thread Cert.KernelIdeal.nD Cert.KernelIdeal.τ).loc Cert.KernelIdeal.main_arg2)
        = Layout.blockN ⟨4, ![256, 32, 16, 128]⟩ ⟨4, ![512, 32, 16, 128]⟩ (Layout.meshBlock [2, 2, 2] ![[0], [], [], []] c) (rV m')
    ∧ m ((c.tc : Thread Cert.KernelIdeal.nD Cert.KernelIdeal.τ).loc Cert.KernelIdeal.main_arg3) = rB m'
    ∧ m ((c.tc : Thread Cert.KernelIdeal.nD Cert.KernelIdeal.τ).loc Cert.KernelIdeal.main_arg4) = rL m'

/-- The precondition on every device's blocks says of the whole arrays what the proof asks of them. -/
theorem proper_of_pre (m : KMem) (m' : RMem) (hp : Cert.Pre_KernelIdeal_proper_KernelIdeal m) (hl : Laid m m') :
    Proper (rQ m') (rK m') (rB m') (rL m') where
  finQ i := by
    obtain ⟨x, hx⟩ := pre_q _ _ _ _ _ (hp 0).1 i
    exact ⟨x, (congrFun (hl 0).1 i).symm.trans hx⟩
  finK i := by
    obtain ⟨P, r, h, y, rfl⟩ : ∃ (P : Fin 512) (r : Fin 32) (h : Fin 16) (y : Fin 128), i = ix4 P r h y := ⟨_, _, _, _, eq_ix4 i⟩
    let c : Dev Cert.KernelIdeal.nD := ⟨4 * (P.val / 256), by show _ < 8; omega⟩
    obtain ⟨x, hx⟩ := pre_k _ _ _ _ _ (hp c).2.1 (ix4 ⟨P.val % 256, by omega⟩ r h y)
    refine ⟨x, Eq.trans ?_ hx⟩
    rw [(hl c).2.1, block_at]
    refine congrArg (fun P => rK m' (ix4 P r h y)) (Fin.ext ?_)
    show P.val = 256 * (4 * (P.val / 256) / 4) + P.val % 256
    omega
  pos b := by
    have := pre_ln _ _ _ _ _ (hp 0).2.2.1 b
    rwa [(hl 0).2.2.2.2] at this
  inRange b j hj := by
    have := pre_bt _ _ _ _ _ (hp 0).2.2.2 b j (by rw [(hl 0).2.2.2.2]; exact hj)
    rwa [(hl 0).2.2.2.1] at this

/-- Each device's inputs are its 64 pages of the reference's arrays, and copies of the rest. -/
theorem given_of_layout (m : KMem) (m' : RMem) (hl : Laid m m') : Given (X m) (rQ m') (rK m') (rV m') (rB m') (rL m') where
  word _ := rfl
  q c := (hl c).1
  k c p r h y := by
    show quarter c _ _ = _
    exact (congrArg (fun A => quarter (F := Ideal) c A (ix4 p r h y)) (hl c).2.1).trans (quarter_block (rK m') c p r h y)
  v c p r h y := by
    show quarter c _ _ = _
    exact (congrArg (fun A => quarter (F := Ideal) c A (ix4 p r h y)) (hl c).2.2.1).trans (quarter_block (rV m') c p r h y)
  bt c := (hl c).2.2.2.1
  ln c b := by
    refine Eq.trans ?_ (congrFun (hl c).2.2.2.2 (ix1 b))
    show shapeCast _ _ _ _ = _
    pointwise []

/-- The kernel's result on every device is the reference's. -/
theorem meets (m : KMem) (m' : RMem) (hp : Cert.Pre_KernelIdeal_proper_KernelIdeal m) (hl : Laid m m') (c : Dev Cert.KernelIdeal.nD) :
    outAt (X m) c = Cert.ReferenceIdeal.Value.res_main_v43 m' 0 := by
  have P := proper_of_pre m m' hp hl
  have G := given_of_layout m m' hl
  funext i
  obtain ⟨b, z, h, d, rfl⟩ : ∃ (b : Fin 32) (z : Fin 1) (h : Fin 16) (d : Fin 128), i = ix4 b z h d := ⟨_, _, _, _, eq_ix4 i⟩
  refine (out_at G P c b z h d).trans ?_
  rw [Cert.ReferenceIdeal.Paged.res_eq]
  exact (Cert.ReferenceIdeal.Paged.res_at (rV m') P b z h d).symm

/-- The kernel run over the extended reals computes the reference, on inputs that are `proper`. -/
theorem algebraic_ideal : Cert.algebraic_KernelIdeal_ReferenceIdeal_pre_proper_KernelIdeal := by
  intro m g m' g' hp hl
  refine ⟨Cert.ReferenceIdeal.Value.res_main_v43 m' 0, ?_, ?_⟩
  · refine (θ_run _ _ _).mono ?_ (run_main m g)
    rintro r ⟨hr, _⟩ c
    exact ⟨(hr c).1.trans (meets m m' hp hl c), (hr c).2⟩
  · refine (θ_run _ _ _).mono ?_ (Cert.ReferenceIdeal.Value.run m' g')
    intro r hr
    exact hr 0

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Frames
public import proofs.«01_k».proof.Proof.Meet
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Meet.preKernelFacts, Cert.Meet.preReferenceFacts,
  frame_kernel, frame_ideal, fun m g _ => frame_ideal m g True.intro, frame_reference, fun m g _ => frame_reference m g True.intro,
  trivial, Cert.Meet.algebraic_ideal⟩

end Cert.Proof

end
